-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_route_is_best_KernelIdeal [hPre_route_is_best_KernelIdeal : Cert.Pre_route_is_best_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_route_is_best_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_route_is_best_ReferenceIdeal [hPre_route_is_best_ReferenceIdeal : Cert.Pre_route_is_best_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_route_is_best_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_route_is_best_KernelIdeal [hKernelIdeal : Cert.KernelIdeal.Facts] [hPre_route_is_best_KernelIdeal : Cert.Pre_route_is_best_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_route_is_best_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_route_is_best_ReferenceIdeal [hReferenceIdeal : Cert.ReferenceIdeal.Facts] [hPre_route_is_best_ReferenceIdeal : Cert.Pre_route_is_best_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_route_is_best_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_route_is_best_KernelIdeal [hKernelIdeal : Cert.KernelIdeal.Facts] [hReferenceIdeal : Cert.ReferenceIdeal.Facts] [hPre_route_is_best_KernelIdeal : Cert.Pre_route_is_best_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_route_is_best_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_route_is_best_KernelIdeal : Cert.Pre_route_is_best_KernelIdeal.Facts) (hPre_route_is_best_ReferenceIdeal : Cert.Pre_route_is_best_ReferenceIdeal.Facts),
    quiescent_Kernel (hKernel := hKernel)
    ∧ quiescent_KernelIdeal (hKernelIdeal := hKernelIdeal)
    ∧ quiescent_KernelIdeal_pre_route_is_best_KernelIdeal (hKernelIdeal := hKernelIdeal) (hPre_route_is_best_KernelIdeal := hPre_route_is_best_KernelIdeal)
    ∧ quiescent_ReferenceIdeal (hReferenceIdeal := hReferenceIdeal)
    ∧ quiescent_ReferenceIdeal_pre_route_is_best_ReferenceIdeal (hReferenceIdeal := hReferenceIdeal) (hPre_route_is_best_ReferenceIdeal := hPre_route_is_best_ReferenceIdeal)
    ∧ preserves_Kernel_KernelIdeal
    ∧ algebraic_KernelIdeal_ReferenceIdeal_pre_route_is_best_KernelIdeal (hKernelIdeal := hKernelIdeal) (hReferenceIdeal := hReferenceIdeal) (hPre_route_is_best_KernelIdeal := hPre_route_is_best_KernelIdeal)
-- ==== Pre_route_is_best_KernelIdeal.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S512x32 : Shape := ⟨2, ![512, 32]⟩
abbrev S_ : Shape := ⟨0, ![]⟩
abbrev S512 : Shape := ⟨1, ![512]⟩

class Facts : Prop where
  reducesTo_S512x32_S512_d1 : S512x32.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x32_0_1 : S512x1.BroadcastsInDim S512x32 (![0, 1] : Fin 2 → Fin S512x32.rank)
  bcast_S_S512x32 : S_.BroadcastsInDim S512x32 (![] : Fin 0 → Fin S512x32.rank)
  reducesTo_S512x1_S_d0_1 : S512x1.ReducesTo [0, 1] S_
  reducesTo_S512x32_S_d0_1 : S512x32.ReducesTo [0, 1] S_
  dot_S512x256_S256x32_S512x32_1_0_0_1_n_n_wf : DotDims.WF S512x256 S256x32 S512x32 [1] [0] [0] [1] [] []

variable [Facts]

def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def fn_part1 {F : FTy → Type} [FloatOps F] (main_v15 : IVec S_ 1) (main_v18 : IVec S512x32 1) : IVec S_ 1 :=
  let main_c_3 : IVec S_ 1 := constantI S_ 1 1#1
  let main_v19 : IVec S_ 1 := (fun x v => Host.reduce IntOp.andi x v reducesTo_S512x32_S_d0_1 h_S_) main_v18 main_c_3
  let main_v20 : IVec S_ 1 := andi main_v15 main_v19
  main_v20

def fn {F : FTy → Type} [FloatOps F] (main_arg0 : FVec F S512x256 .f32) (main_arg1 : FVec F S256x32 .f32) (main_arg2 : IVec S512x1 32) (main_arg3 : FVec F S2x256x512 .f32) (main_arg4 : FVec F S256x512 .f32) : IVec S_ 1 :=
  let main_v0 : FVec F S512x32 .f32 := (fun l r => Host.dotGeneral dot_S512x256_S256x32_S512x32_1_0_0_1_n_n none l r) main_arg0 main_arg1
  let main_cst : FVec F S_ .f32 := constant S_ .f32 0xFF800000#32
  let main_v1 : FVec F S512 .f32 := (fun x v => Host.reduce FloatOps.maximumf x v reducesTo_S512x32_S512_d1 h_S_) main_v0 main_cst
  let main_v2 : FVec F S512x1 .f32 := broadcastInDim S512x1 ![0] bcast_S512_S512x1_0 main_v1
  let main_v3 : IVec S512x32 32 := iotaInDim S512x32 32 1
  let main_c : IVec S_ 32 := constantI S_ 32 0#32
  let main_v4 : IVec S512x1 32 := broadcastInDim S512x1 ![] bcast_S_S512x1 main_c
  let main_v5 : IVec S512x1 1 := cmpi .sge main_arg2 main_v4
  let main_c_0 : IVec S_ 32 := constantI S_ 32 32#32
  let main_v6 : IVec S512x1 32 := broadcastInDim S512x1 ![] bcast_S_S512x1 main_c_0
  let main_v7 : IVec S512x1 1 := cmpi .slt main_arg2 main_v6
  let main_v8 : IVec S512x1 1 := andi main_v5 main_v7
  let main_v9 : FVec F S512x32 .f32 := broadcastInDim S512x32 ![0, 1] bcast_S512x1_S512x32_0_1 main_v2
  let main_v10 : IVec S512x32 1 := cmpf .oeq main_v0 main_v9
  let main_v11 : FVec F S512x32 .f32 := Host.absf main_v0
  let main_cst_1 : FVec F S_ .f32 := constant S_ .f32 0x7F800000#32
  let main_v12 : FVec F S512x32 .f32 := broadcastInDim S512x32 ![] bcast_S_S512x32 main_cst_1
  let main_v13 : IVec S512x32 1 := cmpf .olt main_v11 main_v12
  let main_v14 : IVec S512x32 1 := andi main_v10 main_v13
  let main_c_2 : IVec S_ 1 := constantI S_ 1 1#1
  let main_v15 : IVec S_ 1 := (fun x v => Host.reduce IntOp.andi x v reducesTo_S512x1_S_d0_1 h_S_) main_v8 main_c_2
  let main_v16 : IVec S512x32 32 := broadcastInDim S512x32 ![0, 1] bcast_S512x1_S512x32_0_1 main_arg2
  let main_v17 : IVec S512x32 1 := cmpi .ne main_v3 main_v16
  let main_v18 : IVec S512x32 1 := ori main_v17 main_v14
  fn_part1 (F := F) main_v15 main_v18
-- ==== Pre_route_is_best_ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩

class Facts : Prop where
  reducesTo_S512x32_S512_d1 : S512x32.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x32_0_1 : S512x1.BroadcastsInDim S512x32 (![0, 1] : Fin 2 → Fin S512x32.rank)
  bcast_S_S512x32 : S_.BroadcastsInDim S512x32 (![] : Fin 0 → Fin S512x32.rank)
  reducesTo_S512x1_S_d0_1 : S512x1.ReducesTo [0, 1] S_
  reducesTo_S512x32_S_d0_1 : S512x32.ReducesTo [0, 1] S_
  dot_S512x256_S256x32_S512x32_1_0_0_1_n_n_wf : DotDims.WF S512x256 S256x32 S512x32 [1] [0] [0] [1] [] []

variable [Facts]

def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def fn_part1 {F : FTy → Type} [FloatOps F] (main_v15 : IVec S_ 1) (main_v18 : IVec S512x32 1) : IVec S_ 1 :=
  let main_c_3 : IVec S_ 1 := constantI S_ 1 1#1
  let main_v19 : IVec S_ 1 := (fun x v => Host.reduce IntOp.andi x v reducesTo_S512x32_S_d0_1 h_S_) main_v18 main_c_3
  let main_v20 : IVec S_ 1 := andi main_v15 main_v19
  main_v20

def fn {F : FTy → Type} [FloatOps F] (main_arg0 : FVec F S512x256 .f32) (main_arg1 : FVec F S256x32 .f32) (main_arg2 : IVec S512x1 32) (main_arg3 : FVec F S32x256x512 .f32) (main_arg4 : FVec F S256x512 .f32) : IVec S_ 1 :=
  let main_v0 : FVec F S512x32 .f32 := (fun l r => Host.dotGeneral dot_S512x256_S256x32_S512x32_1_0_0_1_n_n none l r) main_arg0 main_arg1
  let main_cst : FVec F S_ .f32 := constant S_ .f32 0xFF800000#32
  let main_v1 : FVec F S512 .f32 := (fun x v => Host.reduce FloatOps.maximumf x v reducesTo_S512x32_S512_d1 h_S_) main_v0 main_cst
  let main_v2 : FVec F S512x1 .f32 := broadcastInDim S512x1 ![0] bcast_S512_S512x1_0 main_v1
  let main_v3 : IVec S512x32 32 := iotaInDim S512x32 32 1
  let main_c : IVec S_ 32 := constantI S_ 32 0#32
  let main_v4 : IVec S512x1 32 := broadcastInDim S512x1 ![] bcast_S_S512x1 main_c
  let main_v5 : IVec S512x1 1 := cmpi .sge main_arg2 main_v4
  let main_c_0 : IVec S_ 32 := constantI S_ 32 32#32
  let main_v6 : IVec S512x1 32 := broadcastInDim S512x1 ![] bcast_S_S512x1 main_c_0
  let main_v7 : IVec S512x1 1 := cmpi .slt main_arg2 main_v6
  let main_v8 : IVec S512x1 1 := andi main_v5 main_v7
  let main_v9 : FVec F S512x32 .f32 := broadcastInDim S512x32 ![0, 1] bcast_S512x1_S512x32_0_1 main_v2
  let main_v10 : IVec S512x32 1 := cmpf .oeq main_v0 main_v9
  let main_v11 : FVec F S512x32 .f32 := Host.absf main_v0
  let main_cst_1 : FVec F S_ .f32 := constant S_ .f32 0x7F800000#32
  let main_v12 : FVec F S512x32 .f32 := broadcastInDim S512x32 ![] bcast_S_S512x32 main_cst_1
  let main_v13 : IVec S512x32 1 := cmpf .olt main_v11 main_v12
  let main_v14 : IVec S512x32 1 := andi main_v10 main_v13
  let main_c_2 : IVec S_ 1 := constantI S_ 1 1#1
  let main_v15 : IVec S_ 1 := (fun x v => Host.reduce IntOp.andi x v reducesTo_S512x1_S_d0_1 h_S_) main_v8 main_c_2
  let main_v16 : IVec S512x32 32 := broadcastInDim S512x32 ![0, 1] bcast_S512x1_S512x32_0_1 main_arg2
  let main_v17 : IVec S512x32 1 := cmpi .ne main_v3 main_v16
  let main_v18 : IVec S512x32 1 := ori main_v17 main_v14
  fn_part1 (F := F) main_v15 main_v18
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S16x32x512 : Shape := ⟨3, ![16, 32, 512]⟩
abbrev S15x32x512 : Shape := ⟨3, ![15, 32, 512]⟩
abbrev S1x32x512 : Shape := ⟨3, ![1, 32, 512]⟩
abbrev S15 : Shape := ⟨1, ![15]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S1 : Shape := ⟨1, ![1]⟩
abbrev S32x512 : Shape := ⟨2, ![32, 512]⟩
abbrev S32x256 : Shape := ⟨2, ![32, 256]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S16x32x512, .bf16⟩
  | .local _ .vmem, ⟨7, _⟩ => ⟨S15x32x512, .bf16⟩
  | .local _ .vmem, ⟨8, _⟩ => ⟨S1x32x512, .bf16⟩
  | .local _ .vmem, ⟨9, _⟩ => ⟨S16x32x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_86 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v110 : BitVec 32 := Scalar.addi v2 c1_i32_86
  let c16_i32_87 : BitVec 32 := 16#32
  let v111 : BitVec 32 := Scalar.remsi v110 c16_i32_87
  let c0_i32_95 : BitVec 32 := 0#32
  let c0_i32_96 : BitVec 32 := 0#32
  ![v111.toNat, 0, 0]
def k0_dev16 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v110 : BitVec 32 := Scalar.addi v2 c1_i32_86
  let c16_i32_87 : BitVec 32 := 16#32
  let v111 : BitVec 32 := Scalar.remsi v110 c16_i32_87
  let c1_i32_90 : BitVec 32 := 1#32
  let v112 : BitVec 32 := Scalar.muli v111 c1_i32_90
  let v113 : BitVec 32 := Scalar.addi c0_i32_91 v112
  v113.toNat
def k0_dev17 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_97 : BitVec 32 := 2#32
  let v120 : BitVec 32 := Scalar.addi v2 c2_i32_97
  let c16_i32_98 : BitVec 32 := 16#32
  let v121 : BitVec 32 := Scalar.remsi v120 c16_i32_98
  let c1_i32_101 : BitVec 32 := 1#32
  let v122 : BitVec 32 := Scalar.muli v121 c1_i32_101
  let v123 : BitVec 32 := Scalar.addi c0_i32_102 v122
  v123.toNat
def k0_dev18 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_108 : BitVec 32 := 3#32
  let v130 : BitVec 32 := Scalar.addi v2 c3_i32_108
  let c16_i32_109 : BitVec 32 := 16#32
  let v131 : BitVec 32 := Scalar.remsi v130 c16_i32_109
  let c1_i32_112 : BitVec 32 := 1#32
  let v132 : BitVec 32 := Scalar.muli v131 c1_i32_112
  let v133 : BitVec 32 := Scalar.addi c0_i32_113 v132
  v133.toNat
def k0_dev19 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_119 : BitVec 32 := 4#32
  let v140 : BitVec 32 := Scalar.addi v2 c4_i32_119
  let c16_i32_120 : BitVec 32 := 16#32
  let v141 : BitVec 32 := Scalar.remsi v140 c16_i32_120
  let c1_i32_123 : BitVec 32 := 1#32
  let v142 : BitVec 32 := Scalar.muli v141 c1_i32_123
  let v143 : BitVec 32 := Scalar.addi c0_i32_124 v142
  v143.toNat
def k0_dev20 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_130 : BitVec 32 := 5#32
  let v150 : BitVec 32 := Scalar.addi v2 c5_i32_130
  let c16_i32_131 : BitVec 32 := 16#32
  let v151 : BitVec 32 := Scalar.remsi v150 c16_i32_131
  let c1_i32_134 : BitVec 32 := 1#32
  let v152 : BitVec 32 := Scalar.muli v151 c1_i32_134
  let v153 : BitVec 32 := Scalar.addi c0_i32_135 v152
  v153.toNat
def k0_dev21 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_141 : BitVec 32 := 6#32
  let v160 : BitVec 32 := Scalar.addi v2 c6_i32_141
  let c16_i32_142 : BitVec 32 := 16#32
  let v161 : BitVec 32 := Scalar.remsi v160 c16_i32_142
  let c1_i32_145 : BitVec 32 := 1#32
  let v162 : BitVec 32 := Scalar.muli v161 c1_i32_145
  let v163 : BitVec 32 := Scalar.addi c0_i32_146 v162
  v163.toNat
def k0_dev22 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_152 : BitVec 32 := 7#32
  let v170 : BitVec 32 := Scalar.addi v2 c7_i32_152
  let c16_i32_153 : BitVec 32 := 16#32
  let v171 : BitVec 32 := Scalar.remsi v170 c16_i32_153
  let c1_i32_156 : BitVec 32 := 1#32
  let v172 : BitVec 32 := Scalar.muli v171 c1_i32_156
  let v173 : BitVec 32 := Scalar.addi c0_i32_157 v172
  v173.toNat
def k0_dev23 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_163 : BitVec 32 := 8#32
  let v180 : BitVec 32 := Scalar.addi v2 c8_i32_163
  let c16_i32_164 : BitVec 32 := 16#32
  let v181 : BitVec 32 := Scalar.remsi v180 c16_i32_164
  let c1_i32_167 : BitVec 32 := 1#32
  let v182 : BitVec 32 := Scalar.muli v181 c1_i32_167
  let v183 : BitVec 32 := Scalar.addi c0_i32_168 v182
  v183.toNat
def k0_dev24 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_174 : BitVec 32 := 9#32
  let v190 : BitVec 32 := Scalar.addi v2 c9_i32_174
  let c16_i32_175 : BitVec 32 := 16#32
  let v191 : BitVec 32 := Scalar.remsi v190 c16_i32_175
  let c1_i32_178 : BitVec 32 := 1#32
  let v192 : BitVec 32 := Scalar.muli v191 c1_i32_178
  let v193 : BitVec 32 := Scalar.addi c0_i32_179 v192
  v193.toNat
def k0_dev25 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_185 : BitVec 32 := 10#32
  let v200 : BitVec 32 := Scalar.addi v2 c10_i32_185
  let c16_i32_186 : BitVec 32 := 16#32
  let v201 : BitVec 32 := Scalar.remsi v200 c16_i32_186
  let c1_i32_189 : BitVec 32 := 1#32
  let v202 : BitVec 32 := Scalar.muli v201 c1_i32_189
  let v203 : BitVec 32 := Scalar.addi c0_i32_190 v202
  v203.toNat
def k0_dev26 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_196 : BitVec 32 := 11#32
  let v210 : BitVec 32 := Scalar.addi v2 c11_i32_196
  let c16_i32_197 : BitVec 32 := 16#32
  let v211 : BitVec 32 := Scalar.remsi v210 c16_i32_197
  let c1_i32_200 : BitVec 32 := 1#32
  let v212 : BitVec 32 := Scalar.muli v211 c1_i32_200
  let v213 : BitVec 32 := Scalar.addi c0_i32_201 v212
  v213.toNat
def k0_dev27 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_207 : BitVec 32 := 12#32
  let v220 : BitVec 32 := Scalar.addi v2 c12_i32_207
  let c16_i32_208 : BitVec 32 := 16#32
  let v221 : BitVec 32 := Scalar.remsi v220 c16_i32_208
  let c1_i32_211 : BitVec 32 := 1#32
  let v222 : BitVec 32 := Scalar.muli v221 c1_i32_211
  let v223 : BitVec 32 := Scalar.addi c0_i32_212 v222
  v223.toNat
def k0_dev28 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_218 : BitVec 32 := 13#32
  let v230 : BitVec 32 := Scalar.addi v2 c13_i32_218
  let c16_i32_219 : BitVec 32 := 16#32
  let v231 : BitVec 32 := Scalar.remsi v230 c16_i32_219
  let c1_i32_222 : BitVec 32 := 1#32
  let v232 : BitVec 32 := Scalar.muli v231 c1_i32_222
  let v233 : BitVec 32 := Scalar.addi c0_i32_223 v232
  v233.toNat
def k0_dev29 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_229 : BitVec 32 := 14#32
  let v240 : BitVec 32 := Scalar.addi v2 c14_i32_229
  let c16_i32_230 : BitVec 32 := 16#32
  let v241 : BitVec 32 := Scalar.remsi v240 c16_i32_230
  let c1_i32_233 : BitVec 32 := 1#32
  let v242 : BitVec 32 := Scalar.muli v241 c1_i32_233
  let v243 : BitVec 32 := Scalar.addi c0_i32_234 v242
  v243.toNat
def k0_dev30 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_240 : BitVec 32 := 15#32
  let v250 : BitVec 32 := Scalar.addi v2 c15_i32_240
  let c16_i32_241 : BitVec 32 := 16#32
  let v251 : BitVec 32 := Scalar.remsi v250 c16_i32_241
  let c1_i32_244 : BitVec 32 := 1#32
  let v252 : BitVec 32 := Scalar.muli v251 c1_i32_244
  let v253 : BitVec 32 := Scalar.addi c0_i32_245 v252
  v253.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v395 : Index := Scalar.indexCast v2
  let c0_446 : Index := 0#32
  let c0_447 : Index := 0#32
  ![v395.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v403 : BitVec 32 := Scalar.muli v2 c32_i32
  let v404 : Index := Scalar.indexCast v403
  let c0_452 : Index := 0#32
  ![v404.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_467 : BitVec 32 := 0#32
  let c0_i32_468 : BitVec 32 := 0#32
  ![v2.toNat, 0, 0]
def k0_dev31 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_461 : BitVec 32 := 1#32
  let v420 : BitVec 32 := Scalar.addi v2 c1_i32_461
  let c16_i32_462 : BitVec 32 := 16#32
  let v421 : BitVec 32 := Scalar.remsi v420 c16_i32_462
  let c1_i32_465 : BitVec 32 := 1#32
  let v422 : BitVec 32 := Scalar.muli v421 c1_i32_465
  let v423 : BitVec 32 := Scalar.addi c0_i32_466 v422
  v423.toNat
def k0_dev32 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_469 : BitVec 32 := 2#32
  let v429 : BitVec 32 := Scalar.addi v2 c2_i32_469
  let c16_i32_470 : BitVec 32 := 16#32
  let v430 : BitVec 32 := Scalar.remsi v429 c16_i32_470
  let c1_i32_473 : BitVec 32 := 1#32
  let v431 : BitVec 32 := Scalar.muli v430 c1_i32_473
  let v432 : BitVec 32 := Scalar.addi c0_i32_474 v431
  v432.toNat
def k0_dev33 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_477 : BitVec 32 := 3#32
  let v438 : BitVec 32 := Scalar.addi v2 c3_i32_477
  let c16_i32_478 : BitVec 32 := 16#32
  let v439 : BitVec 32 := Scalar.remsi v438 c16_i32_478
  let c1_i32_481 : BitVec 32 := 1#32
  let v440 : BitVec 32 := Scalar.muli v439 c1_i32_481
  let v441 : BitVec 32 := Scalar.addi c0_i32_482 v440
  v441.toNat
def k0_dev34 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_485 : BitVec 32 := 4#32
  let v447 : BitVec 32 := Scalar.addi v2 c4_i32_485
  let c16_i32_486 : BitVec 32 := 16#32
  let v448 : BitVec 32 := Scalar.remsi v447 c16_i32_486
  let c1_i32_489 : BitVec 32 := 1#32
  let v449 : BitVec 32 := Scalar.muli v448 c1_i32_489
  let v450 : BitVec 32 := Scalar.addi c0_i32_490 v449
  v450.toNat
def k0_dev35 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_493 : BitVec 32 := 5#32
  let v456 : BitVec 32 := Scalar.addi v2 c5_i32_493
  let c16_i32_494 : BitVec 32 := 16#32
  let v457 : BitVec 32 := Scalar.remsi v456 c16_i32_494
  let c1_i32_497 : BitVec 32 := 1#32
  let v458 : BitVec 32 := Scalar.muli v457 c1_i32_497
  let v459 : BitVec 32 := Scalar.addi c0_i32_498 v458
  v459.toNat
def k0_dev36 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_501 : BitVec 32 := 6#32
  let v465 : BitVec 32 := Scalar.addi v2 c6_i32_501
  let c16_i32_502 : BitVec 32 := 16#32
  let v466 : BitVec 32 := Scalar.remsi v465 c16_i32_502
  let c1_i32_505 : BitVec 32 := 1#32
  let v467 : BitVec 32 := Scalar.muli v466 c1_i32_505
  let v468 : BitVec 32 := Scalar.addi c0_i32_506 v467
  v468.toNat
def k0_dev37 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_509 : BitVec 32 := 7#32
  let v474 : BitVec 32 := Scalar.addi v2 c7_i32_509
  let c16_i32_510 : BitVec 32 := 16#32
  let v475 : BitVec 32 := Scalar.remsi v474 c16_i32_510
  let c1_i32_513 : BitVec 32 := 1#32
  let v476 : BitVec 32 := Scalar.muli v475 c1_i32_513
  let v477 : BitVec 32 := Scalar.addi c0_i32_514 v476
  v477.toNat
def k0_dev38 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_517 : BitVec 32 := 8#32
  let v483 : BitVec 32 := Scalar.addi v2 c8_i32_517
  let c16_i32_518 : BitVec 32 := 16#32
  let v484 : BitVec 32 := Scalar.remsi v483 c16_i32_518
  let c1_i32_521 : BitVec 32 := 1#32
  let v485 : BitVec 32 := Scalar.muli v484 c1_i32_521
  let v486 : BitVec 32 := Scalar.addi c0_i32_522 v485
  v486.toNat
def k0_dev39 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_525 : BitVec 32 := 9#32
  let v492 : BitVec 32 := Scalar.addi v2 c9_i32_525
  let c16_i32_526 : BitVec 32 := 16#32
  let v493 : BitVec 32 := Scalar.remsi v492 c16_i32_526
  let c1_i32_529 : BitVec 32 := 1#32
  let v494 : BitVec 32 := Scalar.muli v493 c1_i32_529
  let v495 : BitVec 32 := Scalar.addi c0_i32_530 v494
  v495.toNat
def k0_dev40 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_533 : BitVec 32 := 10#32
  let v501 : BitVec 32 := Scalar.addi v2 c10_i32_533
  let c16_i32_534 : BitVec 32 := 16#32
  let v502 : BitVec 32 := Scalar.remsi v501 c16_i32_534
  let c1_i32_537 : BitVec 32 := 1#32
  let v503 : BitVec 32 := Scalar.muli v502 c1_i32_537
  let v504 : BitVec 32 := Scalar.addi c0_i32_538 v503
  v504.toNat
def k0_dev41 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_541 : BitVec 32 := 11#32
  let v510 : BitVec 32 := Scalar.addi v2 c11_i32_541
  let c16_i32_542 : BitVec 32 := 16#32
  let v511 : BitVec 32 := Scalar.remsi v510 c16_i32_542
  let c1_i32_545 : BitVec 32 := 1#32
  let v512 : BitVec 32 := Scalar.muli v511 c1_i32_545
  let v513 : BitVec 32 := Scalar.addi c0_i32_546 v512
  v513.toNat
def k0_dev42 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_549 : BitVec 32 := 12#32
  let v519 : BitVec 32 := Scalar.addi v2 c12_i32_549
  let c16_i32_550 : BitVec 32 := 16#32
  let v520 : BitVec 32 := Scalar.remsi v519 c16_i32_550
  let c1_i32_553 : BitVec 32 := 1#32
  let v521 : BitVec 32 := Scalar.muli v520 c1_i32_553
  let v522 : BitVec 32 := Scalar.addi c0_i32_554 v521
  v522.toNat
def k0_dev43 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_557 : BitVec 32 := 13#32
  let v528 : BitVec 32 := Scalar.addi v2 c13_i32_557
  let c16_i32_558 : BitVec 32 := 16#32
  let v529 : BitVec 32 := Scalar.remsi v528 c16_i32_558
  let c1_i32_561 : BitVec 32 := 1#32
  let v530 : BitVec 32 := Scalar.muli v529 c1_i32_561
  let v531 : BitVec 32 := Scalar.addi c0_i32_562 v530
  v531.toNat
def k0_dev44 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_565 : BitVec 32 := 14#32
  let v537 : BitVec 32 := Scalar.addi v2 c14_i32_565
  let c16_i32_566 : BitVec 32 := 16#32
  let v538 : BitVec 32 := Scalar.remsi v537 c16_i32_566
  let c1_i32_569 : BitVec 32 := 1#32
  let v539 : BitVec 32 := Scalar.muli v538 c1_i32_569
  let v540 : BitVec 32 := Scalar.addi c0_i32_570 v539
  v540.toNat
def k0_dev45 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_573 : BitVec 32 := 15#32
  let v546 : BitVec 32 := Scalar.addi v2 c15_i32_573
  let c16_i32_574 : BitVec 32 := 16#32
  let v547 : BitVec 32 := Scalar.remsi v546 c16_i32_574
  let c1_i32_577 : BitVec 32 := 1#32
  let v548 : BitVec 32 := Scalar.muli v547 c1_i32_577
  let v549 : BitVec 32 := Scalar.addi c0_i32_578 v548
  v549.toNat
def k0_off5 (d0 : Dev nD) (c1_i32_717 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_716 : BitVec 32 := 16#32
  let v615 : BitVec 32 := Scalar.addi v2 c16_i32_716
  let v616 : BitVec 32 := Scalar.subi v615 c1_i32_717
  let c16_i32_718 : BitVec 32 := 16#32
  let v617 : BitVec 32 := Scalar.remsi v616 c16_i32_718
  let c0_i32_723 : BitVec 32 := 0#32
  let c0_i32_724 : BitVec 32 := 0#32
  ![v617.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S256x512, .f32⟩
  | .hbm, ⟨5, _⟩ => ⟨S512x32, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x32, .f32⟩
  | .hbm, ⟨10, _⟩ => ⟨S512x32, .f32⟩
  | .hbm, ⟨11, _⟩ => ⟨S512x32, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x32, .f32⟩
  | .hbm, ⟨16, _⟩ => ⟨S512x32, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512x1x1, .i32⟩
  | .hbm, ⟨26, _⟩ => ⟨S1, .i32⟩
  | .hbm, ⟨27, _⟩ => ⟨S_, .i32⟩
  | .hbm, ⟨28, _⟩ => ⟨S512x1x1, .i32⟩
  | .hbm, ⟨29, _⟩ => ⟨S512x1x1, .i1⟩
  | .hbm, ⟨30, _⟩ => ⟨S1x1x1, .i32⟩
  | .hbm, ⟨31, _⟩ => ⟨S512x1x1, .i32⟩
  | .hbm, ⟨32, _⟩ => ⟨S512x1x1, .i1⟩
  | .hbm, ⟨33, _⟩ => ⟨S512x1x1, .i1⟩
  | .hbm, ⟨34, _⟩ => ⟨S_, .i1⟩
  | .hbm, ⟨35, _⟩ => ⟨S512x1, .i1⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Slots.lean ====
/-
# The devices, the buffers' slots and what they hold

The kernel runs on sixteen devices. A device `c` talks to its fifteen peers `peer c k = c + k + 1` (mod 16), the `k`-th
transfer of either phase going there; `src c k = c - (k + 1)` is the device whose `k`-th transfer comes to `c`.
Four scratch buffers are cut into slots of one 1 x 32 x 512 block each: the local partial sums (`acc`, sixteen slots, one
per destination device), the landing buffer of the first phase (`rs`, fifteen slots, one per transfer), the finished
block (`chunk`, one slot) and the landing buffer of the second phase (`ag`, sixteen slots, one per source device).
This module states which elements a slot is, what each buffer holds once it is filled, and that a landing transfer
leaves exactly that.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Ring
public import Idealize.ShloMosaic.Lib.Tactic

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Who talks to whom -/

/-- The device the `k`-th transfer of device `c` goes to: `c + k + 1` around the ring of sixteen. -/
def peer (c : Dev nD) (k : Fin 15) : Dev nD := ⟨(c.val + k.val + 1) % 16, Nat.mod_lt _ (by decide)⟩
/-- The device whose `k`-th transfer comes to device `c`: `c - (k + 1)` around the ring. -/
def src (c : Dev nD) (k : Fin 15) : Dev nD := ⟨(c.val + 15 - k.val) % 16, Nat.mod_lt _ (by decide)⟩

theorem peer_src (c : Dev nD) (k : Fin 15) : peer (src c k) k = c := by revert c k; decide +kernel
theorem src_peer (c : Dev nD) (k : Fin 15) : src (peer c k) k = c := by revert c k; decide +kernel
/-- Counting the transfers backwards exchanges destination and source. -/
theorem peer_rev (c : Dev nD) (k : Fin 15) : peer c k.rev = src c k := by revert c k; decide +kernel
theorem src_rev (c : Dev nD) (k : Fin 15) : src c k.rev = peer c k := by revert c k; decide +kernel
theorem peer_ne (c : Dev nD) (k : Fin 15) : peer c k ≠ c := by revert c k; decide +kernel
theorem peer_inj (c : Dev nD) : Function.Injective (peer c) := by
  intro k k'; revert c k k'; decide +kernel
theorem src_ne (c : Dev nD) (k : Fin 15) : src c k ≠ c := by revert c k; decide +kernel
theorem src_inj (c : Dev nD) : Function.Injective (src c) := by
  intro k k'; revert c k k'; decide +kernel

/-- For each `k`, going to the `k`-th peer permutes the devices. -/
def around (k : Fin 15) : Dev nD ≃ Dev nD := ⟨fun c => peer c k, fun c => src c k, fun c => src_peer c k, fun c => peer_src c k⟩

/-- All devices are one's own and its fifteen peers. -/
theorem univ_peer (c : Dev nD) : (Finset.univ : Finset (Dev nD)) = insert c (Finset.univ.map ⟨peer c, peer_inj c⟩) := by
  revert c; decide +kernel
/-- All devices are one's own and its fifteen sources. -/
theorem univ_src (c : Dev nD) : (Finset.univ : Finset (Dev nD)) = insert c (Finset.univ.map ⟨src c, src_inj c⟩) := by
  revert c; decide +kernel

/-! ## The buffers and their slots -/

abbrev xM : Memref sig .tc .vmem S512x256 .f32 := Memref.whole cc0_stg0_0
abbrev rwM : Memref sig .tc .vmem S256x32 .f32 := Memref.whole cc0_stg1_0
abbrev idxM : Memref sig .tc .vmem S512x1 .i32 := Memref.whole cc0_stg2_0
abbrev ewM : Memref sig .tc .vmem S2x256x512 .f32 := Memref.whole cc0_stg3_0
abbrev swM : Memref sig .tc .vmem S256x512 .f32 := Memref.whole cc0_stg4_0
abbrev outM : Memref sig .tc .vmem S512x512 .f32 := Memref.whole cc0_stg5_0
abbrev accM : Memref sig .tc .vmem S16x32x512 .bf16 := Memref.whole cc0_scratch0
abbrev rsM : Memref sig .tc .vmem S15x32x512 .bf16 := Memref.whole cc0_scratch1
abbrev chunkM : Memref sig .tc .vmem S1x32x512 .bf16 := Memref.whole cc0_scratch2
abbrev agM : Memref sig .tc .vmem S16x32x512 .bf16 := Memref.whole cc0_scratch3

theorem inb16 (j : Fin 16) : ∀ a, (![j.val, 0, 0] : Fin 3 → ℕ) a + S1x32x512.size a ≤ S16x32x512.size a := by revert j; decide +kernel
theorem inb15 (j : Fin 15) : ∀ a, (![j.val, 0, 0] : Fin 3 → ℕ) a + S1x32x512.size a ≤ S15x32x512.size a := by revert j; decide +kernel

/-- The rectangle of slot `j` in a buffer of sixteen, and in one of fifteen. -/
abbrev rect16 (j : Fin 16) : Rect S16x32x512 := Rect.unit (s := S16x32x512) ![j.val, 0, 0] S1x32x512.size (inb16 j)
abbrev rect15 (j : Fin 15) : Rect S15x32x512 := Rect.unit (s := S15x32x512) ![j.val, 0, 0] S1x32x512.size (inb15 j)

abbrev accSlot (j : Dev nD) : Memref sig .tc .vmem S1x32x512 .bf16 := accM.slice (rect16 j) (fun _ => rfl)
abbrev rsSlot (k : Fin 15) : Memref sig .tc .vmem S1x32x512 .bf16 := rsM.slice (rect15 k) (fun _ => rfl)
abbrev agSlot (j : Dev nD) : Memref sig .tc .vmem S1x32x512 .bf16 := agM.slice (rect16 j) (fun _ => rfl)

/-- An element of a sixteen-slot buffer lies in slot `j` exactly when its first coordinate is `j`. -/
theorem mem_rect16 (j : Fin 16) (i : S16x32x512.Idx) : i ∈ (rect16 j).set ↔ (i 0).val = j.val := by
  rw [Rect.mem_set_unit]
  constructor
  · intro h
    have := h 0
    simp only [Matrix.cons_val_zero] at this
    have e : S1x32x512.size 0 = 1 := rfl
    omega
  · intro h a
    match a with
    | ⟨0, _⟩ => exact ⟨le_of_eq h.symm, by show (i 0).val < j.val + 1; omega⟩
    | ⟨1, _⟩ => exact ⟨Nat.zero_le _, by have := (i 1).isLt; show (i 1).val < 0 + 32; exact (Nat.zero_add 32).symm ▸ this⟩
    | ⟨2, _⟩ => exact ⟨Nat.zero_le _, by have := (i 2).isLt; show (i 2).val < 0 + 512; exact (Nat.zero_add 512).symm ▸ this⟩

/-- The same for a fifteen-slot buffer. -/
theorem mem_rect15 (j : Fin 15) (i : S15x32x512.Idx) : i ∈ (rect15 j).set ↔ (i 0).val = j.val := by
  rw [Rect.mem_set_unit]
  constructor
  · intro h
    have := h 0
    simp only [Matrix.cons_val_zero] at this
    have e : S1x32x512.size 0 = 1 := rfl
    omega
  · intro h a
    match a with
    | ⟨0, _⟩ => exact ⟨le_of_eq h.symm, by show (i 0).val < j.val + 1; omega⟩
    | ⟨1, _⟩ => exact ⟨Nat.zero_le _, by have := (i 1).isLt; show (i 1).val < 0 + 32; exact (Nat.zero_add 32).symm ▸ this⟩
    | ⟨2, _⟩ => exact ⟨Nat.zero_le _, by have := (i 2).isLt; show (i 2).val < 0 + 512; exact (Nat.zero_add 512).symm ▸ this⟩

theorem accSlot_set (j : Dev nD) : (accSlot j).view.set = (rect16 j).set := View.set_slice_whole _ _
theorem rsSlot_set (k : Fin 15) : (rsSlot k).view.set = (rect15 k).set := View.set_slice_whole _ _
theorem agSlot_set (j : Dev nD) : (agSlot j).view.set = (rect16 j).set := View.set_slice_whole _ _

theorem rect16_disjoint (j j' : Fin 16) (h : j ≠ j') : Disjoint (rect16 j).set (rect16 j').set := by
  rw [Finset.disjoint_left]; intro i hi hi'
  exact h (Fin.ext (((mem_rect16 j i).1 hi).symm.trans ((mem_rect16 j' i).1 hi')))
theorem rect16_cover : (Finset.univ : Finset (Fin 16)).biUnion (fun j => (rect16 j).set) = Finset.univ := by
  ext i; simp only [Finset.mem_biUnion, Finset.mem_univ, true_and, iff_true]
  exact ⟨⟨(i 0).val, (i 0).isLt⟩, (mem_rect16 _ i).2 rfl⟩
theorem rect15_disjoint (j j' : Fin 15) (h : j ≠ j') : Disjoint (rect15 j).set (rect15 j').set := by
  rw [Finset.disjoint_left]; intro i hi hi'
  exact h (Fin.ext (((mem_rect15 j i).1 hi).symm.trans ((mem_rect15 j' i).1 hi')))
theorem rect15_cover : (Finset.univ : Finset (Fin 15)).biUnion (fun j => (rect15 j).set) = Finset.univ := by
  ext i; simp only [Finset.mem_biUnion, Finset.mem_univ, true_and, iff_true]
  exact ⟨⟨(i 0).val, (i 0).isLt⟩, (mem_rect15 _ i).2 rfl⟩

/-! ## The printed offsets and devices are these -/

theorem off1_eq (c : Dev nD) (k : Fin 15) : k0_off1 c (BitVec.ofNat 32 (k.val + 1)) = ![(peer c k).val, 0, 0] := by
  revert c k; decide +kernel
theorem off2_eq (c : Dev nD) : k0_off2 c = ![c.val, 0, 0] := by revert c; decide +kernel
theorem off3_eq (c : Dev nD) : k0_off3 c = ![32 * c.val, 0] := by revert c; decide +kernel
theorem off4_eq (c : Dev nD) : k0_off4 c = ![c.val, 0, 0] := by revert c; decide +kernel

/-- A slice of `acc` at an offset that is slot `j`'s is slot `j`. -/
theorem accSlot_of {off : Fin 3 → ℕ} (j : Dev nD) (h : off = ![j.val, 0, 0]) (inb) :
    accM.slice (Rect.unit (s := S16x32x512) off S1x32x512.size inb) (fun _ => rfl) = accSlot j := by subst h; rfl
/-- A slice of `ag` at an offset that is slot `j`'s is slot `j`. -/
theorem agSlot_of {off : Fin 3 → ℕ} (j : Dev nD) (h : off = ![j.val, 0, 0]) (inb) :
    agM.slice (Rect.unit (s := S16x32x512) off S1x32x512.size inb) (fun _ => rfl) = agSlot j := by subst h; rfl

end Cert.KernelIdeal.Moe

end
-- ==== Proof.Schedule.lean ====
/-
# The protocol: who signals whom, with what, and in what order

Sixty-one semaphores per device take part. The barrier semaphore receives one unit from every peer; with its unit a peer
hands over the two slots of its own buffers that the receiver will later write: a slot of the first landing buffer and a
slot of the second. The sixty transfer semaphores come in four families of fifteen, numbered `0` (first phase, sent),
`1` (first phase, received), `2` (second phase, sent) and `3` (second phase, received); each receives the byte count of one
block once. A sent-semaphore hands back what the transfer read, a received-semaphore hands over the slot written, at its
final contents.
Waiting is safe because a device that waits owes only semaphores of a higher level: the barrier is below the first
phase's received-semaphores, these below the second phase's.
-/
module

public import proofs.«01_k».proof.Proof.Slots
public import Idealize.ShloMosaic.Lib.ShareLeaves

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

/-! ## The resource algebra: the pipeline's part and the protocol's, its duties named by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores -/

/-- The barrier semaphore. -/
abbrev barS : Sem sig := (SemArray.scalar (sig.barrier 0 rfl) : Sems sig S_).sem
/-- The `k`-th transfer semaphore of family `a`. -/
def dsem (a : Fin 4) (k : Fin 15) : DmaSem sig := (⟨6 + (15 * a.val + k.val), by omega⟩ : Fin 66)
/-- Which family and number a transfer semaphore has, if it is one of the sixty. -/
def famOf (q : DmaSem sig) : Option (Fin 4 × Fin 15) :=
  if h : 6 ≤ q.val then some (⟨(q.val - 6) / 15, by have : q.val < 66 := q.isLt; omega⟩, ⟨(q.val - 6) % 15, Nat.mod_lt _ (by decide)⟩) else none

theorem famOf_dsem (a : Fin 4) (k : Fin 15) : famOf (dsem a k) = some (a, k) := by revert a k; decide +kernel
theorem dsem_inj {a a' : Fin 4} {k k' : Fin 15} (h : dsem a k = dsem a' k') : (a, k) = (a', k') :=
  Option.some.inj ((famOf_dsem a k).symm.trans ((congrArg famOf h).trans (famOf_dsem a' k')))

abbrev barCell (c : Dev nD) : GSem nD τ sig := ((c : Thread nD τ), .reg barS)
abbrev dCell (c : Dev nD) (a : Fin 4) (k : Fin 15) : GSem nD τ sig := ((c : Thread nD τ), .dma (dsem a k))

/-- The byte count of one block, which every transfer credits and every wait asks for. -/
def N : ℕ := (chunkM : Memref sig .tc .vmem S1x32x512 .bf16).view.dmaCredit
theorem N_pos : 0 < N := View.dmaCredit_pos _ (by decide)
theorem credit_rs (k : Fin 15) : (rsSlot k).view.dmaCredit = N := rfl
theorem credit_acc (j : Dev nD) : (accSlot j).view.dmaCredit = N := rfl
theorem credit_ag (j : Dev nD) : (agSlot j).view.dmaCredit = N := rfl

/-! ## What the buffers hold -/

/-- The staged arguments of device `c`: the tokens, the router weights, the expert indices, this device's two experts'
    weights, the shared expert's weights. -/
def xAt (c : Dev nD) : (cc0_stg0_0 : Ref sig .tc).ty.Contents (Elt F) :=
  (win0_0.blk (0 : Fin 1)).view.read (Elt F) ((s₀ m ρ).mem ((c : Thread nD τ).loc main_arg0))
def rwAt (c : Dev nD) : (cc0_stg1_0 : Ref sig .tc).ty.Contents (Elt F) :=
  (win0_1.blk (0 : Fin 1)).view.read (Elt F) ((s₀ m ρ).mem ((c : Thread nD τ).loc main_arg1))
def idxAt (c : Dev nD) : (cc0_stg2_0 : Ref sig .tc).ty.Contents (Elt F) :=
  (win0_2.blk (0 : Fin 1)).view.read (Elt F) ((s₀ m ρ).mem ((c : Thread nD τ).loc main_arg2))
def ewAt (c : Dev nD) : (cc0_stg3_0 : Ref sig .tc).ty.Contents (Elt F) :=
  (win0_3.blk (0 : Fin 1)).view.read (Elt F) ((s₀ m ρ).mem ((c : Thread nD τ).loc main_arg3))
def swAt (c : Dev nD) : (cc0_stg4_0 : Ref sig .tc).ty.Contents (Elt F) :=
  (win0_4.blk (0 : Fin 1)).view.read (Elt F) ((s₀ m ρ).mem ((c : Thread nD τ).loc main_arg4))

/-- Device `c`'s number along the mesh axis, as the kernel computes it. -/
def selfWord (c : Dev nD) : BitVec 32 := Scalar.remsi (Scalar.divsi (Dev.word c) 1#32) 16#32

theorem inbEw (e : Fin 2) : ∀ a, (![e.val, 0, 0] : Fin 3 → ℕ) a + S1x256x512.size a ≤ S2x256x512.size a := by revert e; decide +kernel
/-- The weights of the device's `e`-th expert. -/
def ewOf (c : Dev nD) (e : Fin 2) : Vec F S1x256x512 .f32 :=
  (ewM : Memref sig .tc .vmem S2x256x512 .f32).view.readAt (Elt F)
    (Rect.unit (s := S2x256x512) ![e.val, 0, 0] S1x256x512.size (inbEw e)).toLoadRect (ewAt m ρ c)

/-- Device `c`'s partial sum for all 512 tokens, in sixteen blocks of 32. -/
def accAt (c : Dev nD) : (cc0_scratch0 : Ref sig .tc).ty.Contents (Elt F) :=
  k0_pay3 (selfWord c) (k0_pay1 (xAt m ρ c)) (k0_pay2 (xAt m ρ c) (rwAt m ρ c)) (Scalar.ofBits .f32 0x3F800000#32) (idxAt m ρ c)
    (ewOf m ρ c 0) (ewOf m ρ c 1)

/-- The element of a sixteen-slot buffer at slot `j`, row `i1`, column `i2`. -/
def at16 (j : Fin 16) (i1 : Fin 32) (i2 : Fin 512) : S16x32x512.Idx := fun a => match a with | ⟨0, _⟩ => j | ⟨1, _⟩ => i1 | ⟨2, _⟩ => i2

/-- The first landing buffer once filled: slot `k` holds the partial sum of device `src c k` for `c`'s block of tokens. -/
def rsAll (c : Dev nD) : (cc0_scratch1 : Ref sig .tc).ty.Contents (Elt F) :=
  fun i => accAt m ρ (src c (i 0)) (at16 c (i 1) (i 2))

theorem inbX (c : Dev nD) : ∀ a, (![32 * c.val, 0] : Fin 2 → ℕ) a + S32x256.size a ≤ S512x256.size a := by revert c; decide +kernel
/-- Device `c`'s own 32 tokens. -/
def xOwn (c : Dev nD) : Vec F S32x256 .f32 :=
  (xM : Memref sig .tc .vmem S512x256 .f32).view.readAt (Elt F)
    (Rect.unit (s := S512x256) ![32 * c.val, 0] S32x256.size (inbX c)).toLoadRect (xAt m ρ c)
/-- Device `c`'s own slot of its partial sum. -/
def accOwn (c : Dev nD) : Vec F S1x32x512 .bf16 :=
  (accM : Memref sig .tc .vmem S16x32x512 .bf16).view.readAt (Elt F) (rect16 c).toLoadRect (accAt m ρ c)

/-- The finished block of device `c`: all sixteen partial sums of its tokens, and the shared expert's product. -/
def chunkAt (c : Dev nD) : (cc0_scratch2 : Ref sig .tc).ty.Contents (Elt F) :=
  k0_pay5 (accOwn m ρ c) (rsAll m ρ c) (xOwn m ρ c) (swAt m ρ c)

/-- The element of a one-slot buffer at row `i1`, column `i2`. -/
def at1 (i1 : Fin 32) (i2 : Fin 512) : S1x32x512.Idx := fun a => match a with | ⟨0, _⟩ => (0 : Fin 1) | ⟨1, _⟩ => i1 | ⟨2, _⟩ => i2

/-- The second landing buffer once filled, the same on every device: slot `j` holds the finished block of device `j`. -/
def agAll : (cc0_scratch3 : Ref sig .tc).ty.Contents (Elt F) :=
  fun i => chunkAt m ρ (i 0) (at1 (i 1) (i 2))

/-- The kernel's result, the same on every device. -/
def outVal : (cc0_stg5_0 : Ref sig .tc).ty.Contents (Elt F) := k0_pay7 (agAll m ρ)

/-! ## Pieces of the buffers, held -/

def accPts (c j : Dev nD) (f : (cc0_scratch0 : Ref sig .tc).ty.Contents (Elt F)) : sProp 𝕄 :=
  (accSlot j).view.loc (c : Thread nD τ) ↦[(accSlot j).view.set]{fullShare} f
def rsPts (c : Dev nD) (k : Fin 15) (f : (cc0_scratch1 : Ref sig .tc).ty.Contents (Elt F)) : sProp 𝕄 :=
  (rsSlot k).view.loc (c : Thread nD τ) ↦[(rsSlot k).view.set]{fullShare} f
def agPts (c j : Dev nD) (f : (cc0_scratch3 : Ref sig .tc).ty.Contents (Elt F)) : sProp 𝕄 :=
  (agSlot j).view.loc (c : Thread nD τ) ↦[(agSlot j).view.set]{fullShare} f
/-- The finished block, read by fifteen transfers at once, is held in sixteen shares. -/
def chunkPts (c : Dev nD) (i : Fin (2 ^ 4)) (f : (cc0_scratch2 : Ref sig .tc).ty.Contents (Elt F)) : sProp 𝕄 :=
  (chunkM : Memref sig .tc .vmem S1x32x512 .bf16).view.loc (c : Thread nD τ)
    ↦[(chunkM : Memref sig .tc .vmem S1x32x512 .bf16).view.set]{ShareLeaves.leaf 4 fullShare i} f

/-- The share the `k`-th transfer of the second phase reads at. -/
def shareNo (k : Fin 15) : Fin (2 ^ 4) := ⟨k.val, by omega⟩

instance accPts_storable (c j : Dev nD) (f) : BI.Storable (upEmb : UEmb _ 𝕄) (accPts (F := F) c j f) := by unfold accPts; infer_instance
instance rsPts_storable (c : Dev nD) (k) (f) : BI.Storable (upEmb : UEmb _ 𝕄) (rsPts (F := F) c k f) := by unfold rsPts; infer_instance
instance agPts_storable (c j : Dev nD) (f) : BI.Storable (upEmb : UEmb _ 𝕄) (agPts (F := F) c j f) := by unfold agPts; infer_instance
instance chunkPts_storable (c : Dev nD) (i) (f) : BI.Storable (upEmb : UEmb _ 𝕄) (chunkPts (F := F) c i f) := by unfold chunkPts; infer_instance

/-- A buffer of sixteen slots held whole is its slots held one by one (`acc`). -/
theorem acc_slots (c : Dev nD) (f : Buf (Elt F) ((c : Thread nD τ).loc cc0_scratch0)) :
    (((c : Thread nD τ).loc cc0_scratch0) ↦{fullShare} f : sProp 𝕄) = bigSep Finset.univ fun j : Dev nD => accPts c j f := by
  rw [Ring.pointsTo_blocks (fun j : Fin 16 => (rect16 j).set) rect16_disjoint rect16_cover]
  refine bigSep_congr fun j _ => ?_
  unfold accPts; rw [accSlot_set]
/-- The same of the second landing buffer; -/
theorem ag_slots (c : Dev nD) (f : Buf (Elt F) ((c : Thread nD τ).loc cc0_scratch3)) :
    (((c : Thread nD τ).loc cc0_scratch3) ↦{fullShare} f : sProp 𝕄) = bigSep Finset.univ fun j : Dev nD => agPts c j f := by
  rw [Ring.pointsTo_blocks (fun j : Fin 16 => (rect16 j).set) rect16_disjoint rect16_cover]
  refine bigSep_congr fun j _ => ?_
  unfold agPts; rw [agSlot_set]
/-- of the first, of fifteen slots; -/
theorem rs_slots (c : Dev nD) (f : Buf (Elt F) ((c : Thread nD τ).loc cc0_scratch1)) :
    (((c : Thread nD τ).loc cc0_scratch1) ↦{fullShare} f : sProp 𝕄) = bigSep Finset.univ fun k : Fin 15 => rsPts c k f := by
  rw [Ring.pointsTo_blocks (fun j : Fin 15 => (rect15 j).set) rect15_disjoint rect15_cover]
  refine bigSep_congr fun j _ => ?_
  unfold rsPts; rw [rsSlot_set]
/-- and the finished block held whole is its sixteen shares. -/
theorem chunk_shares (c : Dev nD) (f : Buf (Elt F) ((c : Thread nD τ).loc cc0_scratch2)) :
    (((c : Thread nD τ).loc cc0_scratch2) ↦{fullShare} f : sProp 𝕄) = bigSep Finset.univ fun i : Fin (2 ^ 4) => chunkPts c i f := by
  rw [ShareLeaves.pointsTo_leaves Finset.univ f 4 fullShare]
  refine bigSep_congr fun i _ => ?_
  unfold chunkPts; rw [show (chunkM : Memref sig .tc .vmem S1x32x512 .bf16).view.set = Finset.univ from View.set_whole _]

/-! ## The schedule -/

/-- What the unit of peer `src c k` hands device `c` at the barrier: the slot of that device's first landing buffer that
    `c` will write, and the slot of its second landing buffer that `c` will write. -/
def barPay (c : Dev nD) (k : Fin 15) : sProp 𝕄 := iprop((∃ f, rsPts (src c k) k.rev f) ∗ (∃ f, agPts (src c k) c f))
/-- What the transfer semaphore of family `a`, number `k`, hands device `c`. -/
def xferPay (c : Dev nD) (a : Fin 4) (k : Fin 15) : sProp 𝕄 := match a with
  | 0 => accPts c (peer c k) (accAt m ρ c)
  | 1 => rsPts c k (rsAll m ρ c)
  | 2 => chunkPts c (shareNo k) (chunkAt m ρ c)
  | 3 => agPts c (src c k) (agAll m ρ)

instance barPay_storable (c : Dev nD) (k) : BI.Storable (upEmb : UEmb _ 𝕄) (barPay (F := F) c k) := by unfold barPay; infer_instance
instance xferPay_storable (c : Dev nD) (a k) : BI.Storable (upEmb : UEmb _ 𝕄) (xferPay m ρ c a k) := by
  unfold xferPay; split <;> infer_instance

/-- What a transfer semaphore hands over, by its place among the sixty; the others hand nothing. -/
def semPay (c : Dev nD) : Option (Fin 4 × Fin 15) → sProp 𝕄
  | none => iprop(emp)
  | some (a, k) => xferPay m ρ c a k
instance semPay_storable (c : Dev nD) (o) : BI.Storable (upEmb : UEmb _ 𝕄) (semPay m ρ c o) := by
  cases o <;> (unfold semPay; infer_instance)

/-- What a unit on a semaphore hands over. -/
def payOf (c : Dev nD) (sm : SemLoc sig) (d : Fin 15) : sProp 𝕄 := match sm with
  | .reg _ => barPay c d
  | .dma q => semPay m ρ c (famOf q)
instance payOf_storable (c : Dev nD) (sm d) : BI.Storable (upEmb : UEmb _ 𝕄) (payOf m ρ c sm d) := by
  cases sm <;> (unfold payOf; infer_instance)

/-- Which duties a semaphore has: the barrier one per peer, a transfer semaphore one. -/
def dutiesOf (sm : SemLoc sig) : Finset (Fin 15) := match sm with
  | .reg _ => Finset.univ
  | .dma q => if (famOf q).isSome then {0} else ∅
/-- The units of one duty: the barrier one, a transfer semaphore one block's byte count. -/
def amountOf (sm : SemLoc sig) : ℕ := match sm with
  | .reg _ => 1
  | .dma _ => N

theorem amountOf_pos (sm : SemLoc sig) : 0 < amountOf sm := by
  cases sm
  · exact Nat.one_pos
  · exact N_pos

/-- Every semaphore has one round, round `0`. -/
def Rd : Rounds.Schedule (GSem nD τ sig) (Fin 15) 𝕄 where
  duties g r := if r = 0 then dutiesOf g.2 else ∅
  unitless _ := False
  amount g _ _ := amountOf g.2
  payload g _ d := payOf m ρ g.1.1 g.2 d
  amount_pos g _ _ _ := amountOf_pos g.2

instance Rd_payload_storable (g : GSem nD τ sig) (r : ℕ) (d : Fin 15) :
    BI.Storable (upEmb : UEmb _ 𝕄) ((Rd m ρ).payload g r d) := by
  show BI.Storable upEmb (payOf m ρ g.1.1 g.2 d)
  infer_instance

section Sched
variable (c : Dev nD) (a : Fin 4) (k : Fin 15)

theorem duties_bar : (Rd m ρ).duties (barCell c) 0 = Finset.univ := rfl
theorem duties_dma : (Rd m ρ).duties (dCell c a k) 0 = {0} := by
  show (if (famOf (dsem a k)).isSome then ({0} : Finset (Fin 15)) else ∅) = {0}
  rw [famOf_dsem]; rfl
theorem duties_later (g : GSem nD τ sig) : ∀ r, 1 ≤ r → (Rd m ρ).duties g r = ∅ :=
  fun r hr => by dsimp only [Rd]; rw [if_neg fun h => by omega]
theorem amount_bar (d : Fin 15) : (Rd m ρ).amount (barCell c) 0 d = 1 := rfl
theorem amount_dma (d : Fin 15) : (Rd m ρ).amount (dCell c a k) 0 d = N := rfl
theorem expect_bar : (Rd m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_dma : (Rd m ρ).expect (dCell c a k) 0 = N := by
  unfold Schedule.expect Schedule.amountOf; rw [duties_dma, Finset.sum_singleton, amount_dma]
theorem payload_bar (d : Fin 15) : (Rd m ρ).payload (barCell c) 0 d = barPay c d := rfl
theorem payload_dma (d : Fin 15) : (Rd m ρ).payload (dCell c a k) 0 d = xferPay m ρ c a k := by
  show semPay m ρ c (famOf (dsem a k)) = _
  rw [famOf_dsem]; rfl
/-- The whole of the barrier's round: every peer's payload. -/
theorem rest_bar : bigSep ((Rd m ρ).duties (barCell c) 0 \ ∅) (fun d => (Rd m ρ).payload (barCell c) 0 d) = bigSep Finset.univ fun d => barPay c d := by
  rw [Finset.sdiff_empty, duties_bar]; rfl
/-- The whole of a transfer semaphore's round. -/
theorem rest_dma : bigSep ((Rd m ρ).duties (dCell c a k) 0 \ ∅) (fun d => (Rd m ρ).payload (dCell c a k) 0 d) = xferPay m ρ c a k := by
  rw [Finset.sdiff_empty, duties_dma, bigSep_singleton, payload_dma]

end Sched

/-! ## What a device owes, and the levels -/

/-- `amt` units to each of the semaphores `f k` from the `n`-th on. -/
def owedTo (f : Fin 15 → GSem nD τ sig) (amt n : ℕ) : CellTallies nD τ sig Unit := ∑ k ∈ rangeSet 15 n 15, tallyAt (f k) () amt

theorem owedTo_step (f : Fin 15 → GSem nD τ sig) (amt : ℕ) (k : Fin 15) :
    owedTo f amt k.val = owedTo f amt (k.val + 1) + tallyAt (f k) () amt := by
  unfold owedTo
  rw [Ring.rangeSet_head k.isLt k.isLt, Finset.sum_insert (Ring.head_not_mem_rangeSet _), add_comm]
theorem owedTo_done (f : Fin 15 → GSem nD τ sig) (amt : ℕ) : owedTo f amt 15 = 0 := by
  unfold owedTo; rw [Ring.rangeSet_empty le_rfl, Finset.sum_empty]
theorem owedTo_pos {f : Fin 15 → GSem nD τ sig} {amt n : ℕ} {g : GSem nD τ sig} {u : Unit} (h : 0 < owedTo f amt n g u) : ∃ k, g = f k := by
  by_contra hn
  refine absurd h (Nat.not_lt.2 (le_of_eq ?_))
  unfold owedTo
  rw [Finset.sum_apply, Finsupp.finset_sum_apply]
  refine Finset.sum_eq_zero fun k _ => ?_
  rw [tallyAt_apply, if_neg fun h' => hn ⟨k, h'.1⟩]

/-- What device `c` still owes once it has signalled `nb` peers and started `nr` and `na` transfers of the two phases. -/
def owed (c : Dev nD) (nb nr na : ℕ) : CellTallies nD τ sig Unit :=
  owedTo (fun k => dCell (peer c k) 3 k) N na + owedTo (fun k => dCell (peer c k) 1 k) N nr + owedTo (fun k => barCell (peer c k)) 1 nb

theorem owed_bar (c : Dev nD) (k : Fin 15) : owed c k.val 0 0 = owed c (k.val + 1) 0 0 + tallyAt (barCell (peer c k)) () 1 := by
  unfold owed; rw [owedTo_step (fun k => barCell (peer c k)) 1 k, ← add_assoc]
theorem owed_rs (c : Dev nD) (k : Fin 15) : owed c 15 k.val 0 = owed c 15 (k.val + 1) 0 + tallyAt (dCell (peer c k) 1 k) () N := by
  unfold owed; rw [owedTo_step (fun k => dCell (peer c k) 1 k) N k, owedTo_done, add_zero, add_zero, ← add_assoc]
theorem owed_ag (c : Dev nD) (k : Fin 15) : owed c 15 15 k.val = owed c 15 15 (k.val + 1) + tallyAt (dCell (peer c k) 3 k) () N := by
  unfold owed; rw [owedTo_step (fun k => dCell (peer c k) 3 k) N k]; simp only [owedTo_done, add_zero]
theorem owed_done (c : Dev nD) : owed c 15 15 15 = 0 := by unfold owed; simp only [owedTo_done, add_zero]

theorem owed_pos {c : Dev nD} {nb nr na : ℕ} {g : GSem nD τ sig} {u : Unit} (h : 0 < owed c nb nr na g u) :
    (∃ k, g = dCell (peer c k) 3 k) ∨ (nr < 15 ∧ ∃ k, g = dCell (peer c k) 1 k) ∨ (nb < 15 ∧ ∃ k, g = barCell (peer c k)) := by
  unfold owed at h
  rw [Pi.add_apply, Finsupp.add_apply, Pi.add_apply, Finsupp.add_apply] at h
  by_cases h3 : 0 < owedTo (fun k => dCell (peer c k) 3 k) N na g u
  · exact .inl (owedTo_pos h3)
  by_cases h1 : 0 < owedTo (fun k => dCell (peer c k) 1 k) N nr g u
  · refine .inr (.inl ⟨?_, owedTo_pos h1⟩)
    by_contra hn
    unfold owedTo at h1; rw [Ring.rangeSet_empty (by omega), Finset.sum_empty] at h1
    exact Nat.lt_irrefl 0 h1
  by_cases hb : 0 < owedTo (fun k => barCell (peer c k)) 1 nb g u
  · refine .inr (.inr ⟨?_, owedTo_pos hb⟩)
    by_contra hn
    unfold owedTo at hb; rw [Ring.rangeSet_empty (by omega), Finset.sum_empty] at hb
    exact Nat.lt_irrefl 0 hb
  omega

/-- The accounting index of a semaphore: one on a device's own core, none elsewhere. -/
def L (g : GSem nD τ sig) : Finset Unit := if g.1.2 = .tc then {()} else ∅
/-- The level of a transfer semaphore by its family: received in the first phase `2`, in the second `3`, any other `0`. -/
def lvFam : Option (Fin 4 × Fin 15) → ℕ
  | some (1, _) => 2
  | some (3, _) => 3
  | _ => 0
/-- The level of a semaphore: the barrier `1`, a transfer semaphore by its family. -/
def lvSem : SemLoc sig → ℕ
  | .reg _ => 1
  | .dma q => lvFam (famOf q)
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (c : Dev nD) (a : Fin 4) (k : Fin 15) : lv (dCell c a k) () = lvFam (some (a, k)) := by
  show lvFam (famOf (dsem a k)) = _; rw [famOf_dsem]

/-- A device may wait on a semaphore when everything it owes is at a higher level. -/
theorem mayWait_of (c : Dev nD) (sm : SemLoc sig) (nb nr na : ℕ)
    (h3 : lvSem sm < 3) (h1 : nr < 15 → lvSem sm < 2) (hb : nb < 15 → lvSem sm < 1) :
    (levAts L lv : sProp 𝕄) ⊢ MayWait (c : Thread nD τ) sm () (owed c nb nr na) :=
  MayOwe.of_cut (L := L) (lev := lv) (lvSem sm)
    (fun p hp => by rw [Finset.mem_singleton.mp hp, L_tc]; exact Finset.mem_singleton_self _)
    (fun g u hg => by
      rcases owed_pos hg with ⟨k, rfl⟩ | ⟨-, k, rfl⟩ | ⟨-, k, rfl⟩ <;> exact Finset.mem_singleton_self _)
    (fun p hp => by rw [Finset.mem_singleton.mp hp]; exact le_rfl)
    (fun g u hg => by
      rcases owed_pos hg with ⟨k, rfl⟩ | ⟨h, k, rfl⟩ | ⟨h, k, rfl⟩
      · rw [show u = () from rfl, lv_dma]; exact h3
      · rw [show u = () from rfl, lv_dma]; exact h1 h
      · exact hb h)

/-- A device that owes nothing may wait on anything. -/
theorem mayWait_zero (c : Dev nD) (sm : SemLoc sig) : (levAts L lv : sProp 𝕄) ⊢ MayWait (c : Thread nD τ) sm () 0 := by
  rw [MayWait_zero]; iintro -; iempintro

end Cert.KernelIdeal.Moe

end
-- ==== Proof.Landing.lean ====
/-
# What a landing transfer leaves

A transfer of the first phase writes block `peer c k` of the sender's partial sum into slot `k` of the receiver's first
landing buffer; one of the second phase writes the sender's finished block into slot `c` of the receiver's second
landing buffer. Whatever the slot held, it then holds the slot's part of the buffer's final contents.
-/
module

public import proofs.«01_k».proof.Proof.Schedule

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem accSlot_emb (j : Dev nD) (x : S1x32x512.Idx) : (accSlot j).view.emb x = at16 j (x 1) (x 2) := by
  funext a; apply Fin.ext
  refine (ValueKit.view_emb_slice_whole_unit_val cc0_scratch0 _ _ _ x a).trans ?_
  have h0 : (x 0).val < 1 := (x 0).isLt
  match a with
  | ⟨0, _⟩ => show j.val + (x 0).val = j.val; omega
  | ⟨1, _⟩ => show 0 + (x 1).val = (x 1).val; omega
  | ⟨2, _⟩ => show 0 + (x 2).val = (x 2).val; omega
theorem agSlot_emb (j : Dev nD) (x : S1x32x512.Idx) : (agSlot j).view.emb x = at16 j (x 1) (x 2) := by
  funext a; apply Fin.ext
  refine (ValueKit.view_emb_slice_whole_unit_val cc0_scratch3 _ _ _ x a).trans ?_
  have h0 : (x 0).val < 1 := (x 0).isLt
  match a with
  | ⟨0, _⟩ => show j.val + (x 0).val = j.val; omega
  | ⟨1, _⟩ => show 0 + (x 1).val = (x 1).val; omega
  | ⟨2, _⟩ => show 0 + (x 2).val = (x 2).val; omega
/-- The element of a fifteen-slot buffer at slot `k`, row `i1`, column `i2`. -/
def at15 (k : Fin 15) (i1 : Fin 32) (i2 : Fin 512) : S15x32x512.Idx := fun a => match a with | ⟨0, _⟩ => k | ⟨1, _⟩ => i1 | ⟨2, _⟩ => i2
theorem rsSlot_emb (k : Fin 15) (x : S1x32x512.Idx) : (rsSlot k).view.emb x = at15 k (x 1) (x 2) := by
  funext a; apply Fin.ext
  refine (ValueKit.view_emb_slice_whole_unit_val cc0_scratch1 _ _ _ x a).trans ?_
  have h0 : (x 0).val < 1 := (x 0).isLt
  match a with
  | ⟨0, _⟩ => show k.val + (x 0).val = k.val; omega
  | ⟨1, _⟩ => show 0 + (x 1).val = (x 1).val; omega
  | ⟨2, _⟩ => show 0 + (x 2).val = (x 2).val; omega
theorem at1_self (x : S1x32x512.Idx) : at1 (x 1) (x 2) = x := by
  funext a; apply Fin.ext
  have h0 : (x 0).val < 1 := (x 0).isLt
  match a with
  | ⟨0, _⟩ => show 0 = (x 0).val; omega
  | ⟨1, _⟩ => rfl
  | ⟨2, _⟩ => rfl

/-- After the `k`-th transfer of the first phase the receiver's slot `k` holds its part of `rsAll`. -/
theorem landed_rs (c : Dev nD) (k : Fin 15) (fd : (cc0_scratch1 : Ref sig .tc).ty.Contents (Elt F)) :
    ((rsSlot k).view.loc (peer c k : Thread nD τ) ↦[(rsSlot k).view.set]{fullShare}
        (rsSlot k).view.write (Elt F) fd ((accSlot (peer c k)).view.read (Elt F) (accAt m ρ c)) Finset.univ : sProp 𝕄)
      = rsPts (peer c k) k (rsAll m ρ (peer c k)) := by
  unfold rsPts
  refine pointsTo_congr fun i hi => ?_
  obtain ⟨x, -, rfl⟩ := Finset.mem_map.1 hi
  rw [View.write_emb_of_mem _ _ (Finset.mem_univ x), View.read_apply, accSlot_emb, rsSlot_emb]
  show accAt m ρ c (at16 (peer c k) (x 1) (x 2)) = accAt m ρ (src (peer c k) k) (at16 (peer c k) (x 1) (x 2))
  rw [src_peer]

/-- After the `k`-th transfer of the second phase the receiver's slot `c` holds its part of `agAll`. -/
theorem landed_ag (c : Dev nD) (k : Fin 15) (fd : (cc0_scratch3 : Ref sig .tc).ty.Contents (Elt F)) :
    ((agSlot c).view.loc (peer c k : Thread nD τ) ↦[(agSlot c).view.set]{fullShare}
        (agSlot c).view.write (Elt F) fd ((chunkM : Memref sig .tc .vmem S1x32x512 .bf16).view.read (Elt F) (chunkAt m ρ c)) Finset.univ : sProp 𝕄)
      = agPts (peer c k) c (agAll m ρ) := by
  unfold agPts
  refine pointsTo_congr fun i hi => ?_
  obtain ⟨x, -, rfl⟩ := Finset.mem_map.1 hi
  rw [View.write_emb_of_mem _ _ (Finset.mem_univ x), View.read_apply, agSlot_emb]
  show chunkAt m ρ c x = chunkAt m ρ c (at1 (x 1) (x 2))
  rw [at1_self]

/-- A device's own store of its finished block into slot `c` of its second landing buffer leaves that part of `agAll`. -/
theorem stored_ag (c : Dev nD) (fd : (cc0_scratch3 : Ref sig .tc).ty.Contents (Elt F)) :
    ((agSlot c).view.loc (c : Thread nD τ) ↦[(agSlot c).view.set]{fullShare}
        (agSlot c).view.write (Elt F) fd (k0_pay6 (accOwn m ρ c) (rsAll m ρ c) (xOwn m ρ c) (swAt m ρ c)) Finset.univ : sProp 𝕄)
      = agPts c c (agAll m ρ) := by
  unfold agPts
  refine pointsTo_congr fun i hi => ?_
  obtain ⟨x, -, rfl⟩ := Finset.mem_map.1 hi
  rw [View.write_emb_of_mem _ _ (Finset.mem_univ x), agSlot_emb]
  show chunkAt m ρ c x = chunkAt m ρ c (at1 (x 1) (x 2))
  rw [at1_self]

end Cert.KernelIdeal.Moe

end
-- ==== Proof.Steps.lean ====
/-
# One step of each phase

The body runs eight phases of fifteen like steps: signal the peers, start the transfers of the first phase, wait for
their arrivals, start the transfers of the second phase, wait until the first phase's own transfers are read, wait for
the second phase's arrivals, wait until the second phase's own transfers are read (and, between, one wait at the
barrier). Here each kind of step is one lemma, at a number `k` left open: from what the device holds with `k` steps of
the phase done, the step's rule leads to what it holds with `k + 1` done.
-/
module

public import proofs.«01_k».proof.Proof.Landing

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The sixty-one semaphores of a device, indexed -/

abbrev CIx : Type := Unit ⊕ (Fin 4 × Fin 15)
abbrev csem : CIx → SemLoc sig
  | .inl _ => .reg barS
  | .inr ak => .dma (dsem ak.1 ak.2)
abbrev kcell (ci : Dev nD × CIx) : GSem nD τ sig := ((ci.1 : Thread nD τ), csem ci.2)

/-- What every device knows: each semaphore's invariant (under the name `K` gives it), that each has reached round `0`,
    and the levels. -/
def records (K : Dev nD × CIx → ℕ) : sProp 𝕄 :=
  iprop((bigSep Finset.univ fun ci : Dev nD × CIx => cellInv ER (Rd m ρ) (K ci) (kcell ci))
    ∗ (bigSep Finset.univ fun ci : Dev nD × CIx => reached ER (kcell ci) 0) ∗ levAts L lv)

instance records_persistent (K : Dev nD × CIx → ℕ) : BI.Persistent (records m ρ K) := by unfold records; infer_instance

variable (K : Dev nD × CIx → ℕ)

theorem inv_at (ci : Dev nD × CIx) :
    (bigSep Finset.univ fun ci : Dev nD × CIx => (cellInv ER (Rd m ρ) (K ci) (kcell ci) : sProp 𝕄)) ⊢ cellInv ER (Rd m ρ) (K ci) (kcell ci) :=
  bigSep_elim (Finset.mem_univ ci)
theorem reached_at (ci : Dev nD × CIx) :
    (bigSep Finset.univ fun ci : Dev nD × CIx => (reached ER (kcell ci) 0 : sProp 𝕄)) ⊢ reached ER (kcell ci) 0 :=
  bigSep_elim (Finset.mem_univ ci)
theorem rec_at (ci : Dev nD × CIx) : records m ρ K ⊢ iprop(cellInv ER (Rd m ρ) (K ci) (kcell ci) ∗ reached ER (kcell ci) 0) := by
  unfold records
  iintro ⟨#HI, #HR, -⟩
  isplitr
  · iapply (inv_at m ρ K ci); iexact HI
  · iapply (reached_at (F := F) ci); iexact HR
theorem rec_bar (c : Dev nD) : records m ρ K ⊢ iprop(cellInv ER (Rd m ρ) (K (c, .inl ())) (barCell c) ∗ reached ER (barCell c) 0) :=
  rec_at m ρ K (c, .inl ())
theorem rec_dma (c : Dev nD) (a : Fin 4) (k : Fin 15) :
    records m ρ K ⊢ iprop(cellInv ER (Rd m ρ) (K (c, .inr (a, k))) (dCell c a k) ∗ reached ER (dCell c a k) 0) :=
  rec_at m ρ K (c, .inr (a, k))
theorem rec_lev : records m ρ K ⊢ levAts L lv := by
  unfold records
  iintro ⟨-, -, H⟩; iexact H

/-! ## Taking the first of what is left, adding the last of what is done -/

theorem first {M : Type} [URA M] (Φ : Fin 15 → sProp M) (k : Fin 15) :
    bigSep (rangeSet 15 k.val 15) Φ = iprop(Φ k ∗ bigSep (rangeSet 15 (k.val + 1) 15) Φ) := Ring.bigSep_rangeSet_head k.isLt k.isLt
theorem last {M : Type} [URA M] (Φ : Fin 15 → sProp M) (k : Fin 15) :
    bigSep (rangeSet 15 0 (k.val + 1)) Φ = iprop(Φ k ∗ bigSep (rangeSet 15 0 k.val) Φ) := Ring.bigSep_rangeSet_last (Nat.succ_pos _) k.isLt
theorem none_left {M : Type} [URA M] (Φ : Fin 15 → sProp M) : bigSep (rangeSet 15 15 15) Φ = iprop(emp) := Ring.bigSep_rangeSet_empty le_rfl
theorem none_done {M : Type} [URA M] (Φ : Fin 15 → sProp M) : bigSep (rangeSet 15 0 0) Φ = iprop(emp) := Ring.bigSep_rangeSet_empty le_rfl
theorem all_range {M : Type} [URA M] (Φ : Fin 15 → sProp M) : bigSep (rangeSet 15 0 15) Φ = bigSep Finset.univ Φ := by rw [Ring.rangeSet_univ]

/-! ## Signalling the peers -/

/-- What a device needs for its `k`-th signal: the right to pay it, and what it hands over. -/
def sigItem (c : Dev nD) (k : Fin 15) : sProp 𝕄 := iprop(dutyTok ER (barCell (peer c k)) 0 k ∗ barPay (peer c k) k)
/-- `n` peers signalled. -/
def sigSt (c : Dev nD) (n : ℕ) : sProp 𝕄 :=
  iprop((∃ W, owes (c : Thread nD τ) (owed c n 0 0) W) ∗ bigSep (rangeSet 15 n 15) (sigItem c))

/-- The `k`-th signal. -/
theorem step_signal (c : Dev nD) (k : Fin 15) {n : Dev nD} (hn : n = peer c k) {z : ℤ} (hz : z = ((1 : ℕ) : ℤ))
    {α : Type} {Q : α → sProp 𝕄} {p : PUnit → Prog (TpuEff nD τ sig (Elt F) Λ₀ .tc) α} :
    iprop(records m ρ K ∗ sigSt c k.val)
      ⊢ iprop((sigSt c (k.val + 1) -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) barS z) p) Q) := by
  subst hn; subst hz
  unfold sigSt
  rw [first]
  iintro ⟨#HK, ⟨%W, HO⟩, Hitem, Hrest⟩ Hk
  unfold sigItem
  icases Hitem with ⟨Htok, Hpay⟩
  ihave #Hc := (rec_bar m ρ K (peer c k)) $$ HK
  icases Hc with ⟨#HI, #HR⟩
  iapply (Rounds.wp_signal 𝒱₀ ER (Rd m ρ) (c : Thread nD τ) none (dst := (peer c k : Thread nD τ)) (κ := K (peer c k, .inl ()))
      (d := k) (by rw [duties_bar]; exact Finset.mem_univ _) (amount_bar m ρ (peer c k) k) () (owed c (k.val + 1) 0 0) (owed_bar c k))
    $$ [HO Htok Hpay]
  · isplitr; · iexact HI
    isplitl [HO]; · iexact HO
    isplitl [Htok]; · iexact Htok
    isplitl [Hpay]; · rw [payload_bar]; iexact Hpay
    iexact HR
  iintro HO
  iapply Hk
  isplitl [HO]
  · iexists W; iexact HO
  iexact Hrest

/-! ## The barrier wait -/

/-- All peers signalled: the wait for fifteen units brings every peer's payload, and the barrier's counter back at zero. -/
theorem step_barrier (c : Dev nD) {z : ℤ} (hz : z = ((15 : ℕ) : ℤ))
    {α : Type} {Q : α → sProp 𝕄} {p : PUnit → Prog (TpuEff nD τ sig (Elt F) Λ₀ .tc) α} :
    iprop(records m ρ K ∗ sigSt c 15 ∗ cred (tallyAt (barCell c) () 15) ∗ atPos ER (barCell c) 0 ∅ 0)
      ⊢ iprop((((∃ W, owes (c : Thread nD τ) (owed c 15 0 0) W) ∗ (bigSep Finset.univ fun k => barPay c k) ∗ semVal (barCell c) 0)
              -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS z) p) Q) := by
  subst hz
  unfold sigSt
  iintro ⟨#HK, ⟨⟨%W, HO⟩, -⟩, Hc, Hat⟩ Hk
  ihave #Hcell := (rec_bar m ρ K c) $$ HK
  icases Hcell with ⟨#HI, -⟩
  iapply (Rounds.wp_wait_rest_token 𝒱₀ ER (Rd m ρ) (c : Thread nD τ) none (κ := K (c, .inl ()))
      (wpE_semWait_eq 𝒱₀ (c : Thread nD τ) none Set.univ) (Set.mem_univ _) () (O := owed c 15 0 0) (W := W) (R := 0) (m := 0) (T := ∅)
      (by rw [expect_bar])) $$ [Hc HO Hat]
  · isplitr; · iexact HI
    isplitl [Hc]; · iexact Hc
    isplitl [HO]; · iexact HO
    isplitr
    · iapply (mayWait_of c (.reg barS) 15 0 0 (by decide) (fun _ => by decide) (fun h => absurd h (lt_irrefl _)))
      iapply (rec_lev m ρ K); iexact HK
    iexact Hat
  iintro ⟨HO, Hat, -, Hpay⟩
  imod (Rounds.cell_close ER (Rd m ρ) (Set.mem_univ (K (c, .inl ()))) (fun h => h) (R := 0 + 1) (duties_later m ρ (barCell c))) $$ [Hat] with Hz
  · isplitr; · iexact HI
    iexact Hat
  iapply Hk
  isplitl [HO]
  · iexists _; iexact HO
  isplitl [Hpay]
  · iapply (Entails.of_eq (rest_bar m ρ c)); iexact Hpay
  iexact Hz

/-! ## Starting the transfers of the first phase -/

/-- What the `k`-th transfer of the first phase needs: the rights to pay both its semaphores, the block it reads and the
    slot it writes. -/
def rsItem (c : Dev nD) (k : Fin 15) : sProp 𝕄 :=
  iprop(dutyTok ER (dCell c 0 k) 0 0 ∗ dutyTok ER (dCell (peer c k) 1 k) 0 0 ∗ accPts c (peer c k) (accAt m ρ c) ∗ ∃ f, rsPts (peer c k) k f)
/-- `n` transfers of the first phase started. -/
def rsSt (c : Dev nD) (n : ℕ) : sProp 𝕄 :=
  iprop((∃ W, owes (c : Thread nD τ) (owed c 15 n 0) W) ∗ bigSep (rangeSet 15 n 15) (rsItem m ρ c)
    ∗ bigSep (rangeSet 15 0 n) fun k => cred (tallyAt (dCell c 0 k) () N))

/-- The start of the `k`-th transfer of the first phase. -/
theorem step_rs (c : Dev nD) (k : Fin 15) {n : Dev nD} (hn : n = peer c k)
    {off : Fin 3 → ℕ} {inb} (ho : off = ![(peer c k).val, 0, 0])
    {dst : Memref sig (n : Thread nD τ).2.kind .vmem S1x32x512 .bf16} (hd : dst = rsSlot k)
    {sS sR : DmaSem sig} (hS : sS = dsem 0 k) (hR : sR = dsem 1 k)
    {hsc : dst.view.ref.isScScratch = false}
    {hsrc : (accM.slice (Rect.unit (s := S16x32x512) off S1x32x512.size inb) (fun _ => rfl)).view.WordExact}
    {hdst : dst.view.WordExact}
    {hsem : DmaTarget.Typed .vmem (.dma sR) (.remote (n : Thread nD τ) dst (.dma sS) hsc)}
    {α : Type} {Q : α → sProp 𝕄} {p : PUnit → Prog (TpuEff nD τ sig (Elt F) Λ₀ .tc) α} :
    iprop(records m ρ K ∗ rsSt m ρ c k.val)
      ⊢ iprop((rsSt m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma (accM.slice (Rect.unit (s := S16x32x512) off S1x32x512.size inb) (fun _ => rfl))
              (.remote (n : Thread nD τ) dst (.dma sS) hsc) (.dma sR) hsrc hdst hsem) p) Q) := by
  subst hn; subst ho; subst hd; subst hS; subst hR
  unfold rsSt
  rw [first, last]
  iintro ⟨#HK, ⟨%W, HO⟩, ⟨Hitem, Hrest⟩, Hdone⟩ Hk
  unfold rsItem
  icases Hitem with ⟨Ht0, Ht1, Hsrc, ⟨%fd, Hdst⟩⟩
  ihave #Hc0 := (rec_dma m ρ K c 0 k) $$ HK
  icases Hc0 with ⟨#HI0, #HR0⟩
  ihave #Hc1 := (rec_dma m ρ K (peer c k) 1 k) $$ HK
  icases Hc1 with ⟨#HI1, #HR1⟩
  unfold accPts rsPts
  iapply (Rounds.wp_send_pointsTo 𝒱₀ ER (Rd m ρ) (c : Thread nD τ) none (c' := (peer c k : Thread nD τ)) (src := accSlot (peer c k)) (dst := rsSlot k)
      (sS := .dma (dsem 0 k)) (sem := .dma (dsem 1 k)) (κ₁ := K (c, .inr (0, k))) (κ₂ := K (peer c k, .inr (1, k)))
      (r₁ := 0) (r₂ := 0) (d₁ := 0) (d₂ := 0) (fd := fd)
      (by rw [duties_dma]; exact Finset.mem_singleton_self _) (by rw [duties_dma]; exact Finset.mem_singleton_self _)
      () () N (credit_rs k) (amount_dma m ρ c 0 k 0) (amount_dma m ρ (peer c k) 1 k 0) (owed c 15 (k.val + 1) 0) (owed_rs c k) (W := W)
      (by rw [payload_dma]; exact BI.Entails.refl _)
      (by rw [payload_dma]; exact Entails.of_eq (landed_rs m ρ c k fd))) $$ [HO Ht0 Ht1 Hsrc Hdst]
  · isplitr; · iexact HI0
    isplitr; · iexact HI1
    isplitl [Hsrc]; · iexact Hsrc
    isplitl [Hdst]; · iexact Hdst
    isplitl [HO]; · iexact HO
    isplitl [Ht0]; · iexact Ht0
    isplitr; · iexact HR0
    isplitl [Ht1]; · iexact Ht1
    iexact HR1
  iintro ⟨Hc, HO⟩
  iapply Hk
  isplitl [HO]
  · iexists W; iexact HO
  isplitl [Hrest]; · iexact Hrest
  isplitl [Hc] <;> iassumption

/-! ## Starting the transfers of the second phase -/

/-- What the `k`-th transfer of the second phase needs: the rights to pay both its semaphores, its share of the finished
    block, and the slot it writes. -/
def agItem (c : Dev nD) (k : Fin 15) : sProp 𝕄 :=
  iprop(dutyTok ER (dCell c 2 k) 0 0 ∗ dutyTok ER (dCell (peer c k) 3 k) 0 0 ∗ chunkPts c (shareNo k) (chunkAt m ρ c) ∗ ∃ f, agPts (peer c k) c f)
/-- `n` transfers of the second phase started. -/
def agSt (c : Dev nD) (n : ℕ) : sProp 𝕄 :=
  iprop((∃ W, owes (c : Thread nD τ) (owed c 15 15 n) W) ∗ bigSep (rangeSet 15 n 15) (agItem m ρ c)
    ∗ bigSep (rangeSet 15 0 n) fun k => cred (tallyAt (dCell c 2 k) () N))

/-- The start of the `k`-th transfer of the second phase. -/
theorem step_ag (c : Dev nD) (k : Fin 15) {n : Dev nD} (hn : n = peer c k)
    {dst : Memref sig (n : Thread nD τ).2.kind .vmem S1x32x512 .bf16} (hd : dst = agSlot c)
    {sS sR : DmaSem sig} (hS : sS = dsem 2 k) (hR : sR = dsem 3 k)
    {hsc : dst.view.ref.isScScratch = false}
    {hsrc : (chunkM : Memref sig .tc .vmem S1x32x512 .bf16).view.WordExact}
    {hdst : dst.view.WordExact}
    {hsem : DmaTarget.Typed .vmem (.dma sR) (.remote (n : Thread nD τ) dst (.dma sS) hsc)}
    {α : Type} {Q : α → sProp 𝕄} {p : PUnit → Prog (TpuEff nD τ sig (Elt F) Λ₀ .tc) α} :
    iprop(records m ρ K ∗ agSt m ρ c k.val)
      ⊢ iprop((agSt m ρ c (k.val + 1) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma chunkM (.remote (n : Thread nD τ) dst (.dma sS) hsc) (.dma sR) hsrc hdst hsem) p) Q) := by
  subst hn; subst hd; subst hS; subst hR
  unfold agSt
  rw [first, last]
  iintro ⟨#HK, ⟨%W, HO⟩, ⟨Hitem, Hrest⟩, Hdone⟩ Hk
  unfold agItem
  icases Hitem with ⟨Ht0, Ht1, Hsrc, ⟨%fd, Hdst⟩⟩
  ihave #Hc0 := (rec_dma m ρ K c 2 k) $$ HK
  icases Hc0 with ⟨#HI0, #HR0⟩
  ihave #Hc1 := (rec_dma m ρ K (peer c k) 3 k) $$ HK
  icases Hc1 with ⟨#HI1, #HR1⟩
  unfold chunkPts agPts
  iapply (Rounds.wp_send_pointsTo 𝒱₀ ER (Rd m ρ) (c : Thread nD τ) none (c' := (peer c k : Thread nD τ)) (src := chunkM) (dst := agSlot c)
      (sS := .dma (dsem 2 k)) (sem := .dma (dsem 3 k)) (κ₁ := K (c, .inr (2, k))) (κ₂ := K (peer c k, .inr (3, k)))
      (r₁ := 0) (r₂ := 0) (d₁ := 0) (d₂ := 0) (fd := fd)
      (by rw [duties_dma]; exact Finset.mem_singleton_self _) (by rw [duties_dma]; exact Finset.mem_singleton_self _)
      () () N (credit_ag c) (amount_dma m ρ c 2 k 0) (amount_dma m ρ (peer c k) 3 k 0) (owed c 15 15 (k.val + 1)) (owed_ag c k) (W := W)
      (by rw [payload_dma]; exact BI.Entails.refl _)
      (by
        rw [payload_dma]
        refine (Entails.of_eq (landed_ag m ρ c k fd)).trans ?_
        show _ ⊢ agPts (peer c k) (src (peer c k) k) (agAll m ρ)
        rw [src_peer])) $$ [HO Ht0 Ht1 Hsrc Hdst]
  · isplitr; · iexact HI0
    isplitr; · iexact HI1
    isplitl [Hsrc]; · iexact Hsrc
    isplitl [Hdst]; · iexact Hdst
    isplitl [HO]; · iexact HO
    isplitl [Ht0]; · iexact Ht0
    isplitr; · iexact HR0
    isplitl [Ht1]; · iexact Ht1
    iexact HR1
  iintro ⟨Hc, HO⟩
  iapply Hk
  isplitl [HO]
  · iexists W; iexact HO
  isplitl [Hrest]; · iexact Hrest
  isplitl [Hc] <;> iassumption

/-! ## Waiting on a transfer semaphore -/

/-- What a wait on the `k`-th semaphore of family `a` needs. -/
def waitItem (c : Dev nD) (a : Fin 4) (k : Fin 15) : sProp 𝕄 := iprop(cred (tallyAt (dCell c a k) () N) ∗ atPos ER (dCell c a k) 0 ∅ 0)
/-- What it leaves: what the semaphore hands over, and its counter back at zero. -/
def doneItem (c : Dev nD) (a : Fin 4) (k : Fin 15) : sProp 𝕄 := iprop(xferPay m ρ c a k ∗ semVal (dCell c a k) 0)
/-- `n` semaphores of family `a` waited for, `O` owed throughout. -/
def waitSt (c : Dev nD) (a : Fin 4) (O : CellTallies nD τ sig Unit) (n : ℕ) : sProp 𝕄 :=
  iprop((∃ W, owes (c : Thread nD τ) O W) ∗ bigSep (rangeSet 15 n 15) (waitItem c a) ∗ bigSep (rangeSet 15 0 n) (doneItem m ρ c a))

/-- The wait on the `k`-th semaphore of family `a`. -/
theorem step_wait (c : Dev nD) (a : Fin 4) (O : CellTallies nD τ sig Unit) (k : Fin 15)
    (hmw : (levAts L lv : sProp 𝕄) ⊢ MayWait (c : Thread nD τ) (.dma (dsem a k)) () O)
    {sm : DmaSem sig} (hs : sm = dsem a k)
    {s s' : Shape} {e e' : EltTy} {srcM : Memref sig .tc .vmem s e} {dstM : Memref sig .tc .vmem s' e'} (hN : dstM.view.dmaCredit = N)
    {hsrc : srcM.view.WordExact} {hdst : dstM.view.WordExact}
    {α : Type} {Q : α → sProp 𝕄} {p : PUnit → Prog (TpuEff nD τ sig (Elt F) Λ₀ .tc) α} :
    iprop(records m ρ K ∗ waitSt m ρ c a O k.val)
      ⊢ iprop((waitSt m ρ c a O (k.val + 1) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sm srcM dstM hsrc hdst) p) Q) := by
  subst hs
  unfold waitSt
  rw [first, last]
  iintro ⟨#HK, ⟨%W, HO⟩, ⟨Hitem, Hrest⟩, Hdone⟩ Hk
  unfold waitItem
  icases Hitem with ⟨Hc, Hat⟩
  ihave #Hcell := (rec_dma m ρ K c a k) $$ HK
  icases Hcell with ⟨#HI, -⟩
  iapply (Rounds.wp_wait_rest_token 𝒱₀ ER (Rd m ρ) (c : Thread nD τ) none (κ := K (c, .inr (a, k)))
      (w := .waitDma2 (dsem a k) srcM dstM hsrc hdst) (sm := .dma (dsem a k)) (k' := N)
      (fun X => (wpE_waitDma2_eq 𝒱₀ (c : Thread nD τ) none Set.univ X).trans (by rw [hN])) (Set.mem_univ _) () (O := O) (W := W) (R := 0) (m := 0) (T := ∅)
      (by rw [Nat.zero_add, expect_dma])) $$ [Hc HO Hat]
  · isplitr; · iexact HI
    isplitl [Hc]; · iexact Hc
    isplitl [HO]; · iexact HO
    isplitr
    · iapply hmw
      iapply (rec_lev m ρ K); iexact HK
    iexact Hat
  iintro ⟨HO, Hat, -, Hpay⟩
  imod (Rounds.cell_close ER (Rd m ρ) (Set.mem_univ (K (c, .inr (a, k)))) (fun h => h) (R := 0 + 1) (duties_later m ρ (dCell c a k))) $$ [Hat] with Hz
  · isplitr; · iexact HI
    iexact Hat
  iapply Hk
  isplitl [HO]
  · iexists _; iexact HO
  isplitl [Hrest]; · iexact Hrest
  isplitl [Hpay Hz]
  · unfold doneItem
    isplitl [Hpay]
    · iapply (Entails.of_eq (rest_dma m ρ c a k)); iexact Hpay
    iexact Hz
  iexact Hdone

end Cert.KernelIdeal.Moe

end
-- ==== Proof.Parts.lean ====
/-
# The parts of the body that only signal, send and wait

The kernel's body is printed in thirty-one parts. Each lemma here takes one part from what the device holds before it to
what it holds after, one step's lemma per effect. The parts that also load and store are in the next module.
-/
module

public import proofs.«01_k».proof.Proof.Steps

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-! ## The devices the parts name are the peers -/

theorem dev1 (c : Dev nD) : (⟨k0_dev1 c, k0_dev1_lt c⟩ : Dev nD) = peer c ⟨0, by decide⟩ := Fin.ext (by revert c; decide +kernel)
theorem dev2 (c : Dev nD) : (⟨k0_dev2 c, k0_dev2_lt c⟩ : Dev nD) = peer c ⟨1, by decide⟩ := Fin.ext (by revert c; decide +kernel)
theorem dev3 (c : Dev nD) : (⟨k0_dev3 c, k0_dev3_lt c⟩ : Dev nD) = peer c ⟨2, by decide⟩ := Fin.ext (by revert c; decide +kernel)
theorem dev4 (c : Dev nD) : (⟨k0_dev4 c, k0_dev4_lt c⟩ : Dev nD) = peer c ⟨3, by decide⟩ := Fin.ext (by revert c; decide +kernel)
theorem dev5 (c : Dev nD) : (⟨k0_dev5 c, k0_dev5_lt c⟩ : Dev nD) = peer c ⟨4, by decide⟩ := Fin.ext (by revert c; decide +kernel)
theorem dev6 (c : Dev nD) : (⟨k0_dev6 c, k0_dev6_lt c⟩ : Dev nD) = peer c ⟨5, by decide⟩ := Fin.ext (by revert c; decide +kernel)
theorem dev7 (c : Dev nD) : (⟨k0_dev7 c, k0_dev7_lt c⟩ : Dev nD) = peer c ⟨6, by decide⟩ := Fin.ext (by revert c; decide +kernel)
theorem dev8 (c : Dev nD) : (⟨k0_dev8 c, k0_dev8_lt c⟩ : Dev nD) = peer c ⟨7, by decide⟩ := Fin.ext (by revert c; decide +kernel)
theorem dev9 (c : Dev nD) : (⟨k0_dev9 c, k0_dev9_lt c⟩ : Dev nD) = peer c ⟨8, by decide⟩ := Fin.ext (by revert c; decide +kernel)
theorem dev10 (c : Dev nD) : (⟨k0_dev10 c, k0_dev10_lt c⟩ : Dev nD) = peer c ⟨9, by decide⟩ := Fin.ext (by revert c; decide +kernel)
theorem dev11 (c : Dev nD) : (⟨k0_dev11 c, k0_dev11_lt c⟩ : Dev nD) = peer c ⟨10, by decide⟩ := Fin.ext (by revert c; decide +kernel)
theorem dev12 (c : Dev nD) : (⟨k0_dev12 c, k0_dev12_lt c⟩ : Dev nD) = peer c ⟨11, by decide⟩ := Fin.ext (by revert c; decide +kernel)
theorem dev13 (c : Dev nD) : (⟨k0_dev13 c, k0_dev13_lt c⟩ : Dev nD) = peer c ⟨12, by decide⟩ := Fin.ext (by revert c; decide +kernel)
theorem dev14 (c : Dev nD) : (⟨k0_dev14 c, k0_dev14_lt c⟩ : Dev nD) = peer c ⟨13, by decide⟩ := Fin.ext (by revert c; decide +kernel)
theorem dev15 (c : Dev nD) : (⟨k0_dev15 c, k0_dev15_lt c⟩ : Dev nD) = peer c ⟨14, by decide⟩ := Fin.ext (by revert c; decide +kernel)
theorem dev16 (c : Dev nD) : (⟨k0_dev16 c, k0_dev16_lt c⟩ : Dev nD) = peer c ⟨0, by decide⟩ := Fin.ext (by revert c; decide +kernel)
theorem dev17 (c : Dev nD) : (⟨k0_dev17 c, k0_dev17_lt c⟩ : Dev nD) = peer c ⟨1, by decide⟩ := Fin.ext (by revert c; decide +kernel)
theorem dev18 (c : Dev nD) : (⟨k0_dev18 c, k0_dev18_lt c⟩ : Dev nD) = peer c ⟨2, by decide⟩ := Fin.ext (by revert c; decide +kernel)
theorem dev19 (c : Dev nD) : (⟨k0_dev19 c, k0_dev19_lt c⟩ : Dev nD) = peer c ⟨3, by decide⟩ := Fin.ext (by revert c; decide +kernel)
theorem dev20 (c : Dev nD) : (⟨k0_dev20 c, k0_dev20_lt c⟩ : Dev nD) = peer c ⟨4, by decide⟩ := Fin.ext (by revert c; decide +kernel)
theorem dev21 (c : Dev nD) : (⟨k0_dev21 c, k0_dev21_lt c⟩ : Dev nD) = peer c ⟨5, by decide⟩ := Fin.ext (by revert c; decide +kernel)
theorem dev22 (c : Dev nD) : (⟨k0_dev22 c, k0_dev22_lt c⟩ : Dev nD) = peer c ⟨6, by decide⟩ := Fin.ext (by revert c; decide +kernel)
theorem dev23 (c : Dev nD) : (⟨k0_dev23 c, k0_dev23_lt c⟩ : Dev nD) = peer c ⟨7, by decide⟩ := Fin.ext (by revert c; decide +kernel)
theorem dev24 (c : Dev nD) : (⟨k0_dev24 c, k0_dev24_lt c⟩ : Dev nD) = peer c ⟨8, by decide⟩ := Fin.ext (by revert c; decide +kernel)
theorem dev25 (c : Dev nD) : (⟨k0_dev25 c, k0_dev25_lt c⟩ : Dev nD) = peer c ⟨9, by decide⟩ := Fin.ext (by revert c; decide +kernel)
theorem dev26 (c : Dev nD) : (⟨k0_dev26 c, k0_dev26_lt c⟩ : Dev nD) = peer c ⟨10, by decide⟩ := Fin.ext (by revert c; decide +kernel)
theorem dev27 (c : Dev nD) : (⟨k0_dev27 c, k0_dev27_lt c⟩ : Dev nD) = peer c ⟨11, by decide⟩ := Fin.ext (by revert c; decide +kernel)
theorem dev28 (c : Dev nD) : (⟨k0_dev28 c, k0_dev28_lt c⟩ : Dev nD) = peer c ⟨12, by decide⟩ := Fin.ext (by revert c; decide +kernel)
theorem dev29 (c : Dev nD) : (⟨k0_dev29 c, k0_dev29_lt c⟩ : Dev nD) = peer c ⟨13, by decide⟩ := Fin.ext (by revert c; decide +kernel)
theorem dev30 (c : Dev nD) : (⟨k0_dev30 c, k0_dev30_lt c⟩ : Dev nD) = peer c ⟨14, by decide⟩ := Fin.ext (by revert c; decide +kernel)
theorem dev31 (c : Dev nD) : (⟨k0_dev31 c, k0_dev31_lt c⟩ : Dev nD) = peer c ⟨0, by decide⟩ := Fin.ext (by revert c; decide +kernel)
theorem dev32 (c : Dev nD) : (⟨k0_dev32 c, k0_dev32_lt c⟩ : Dev nD) = peer c ⟨1, by decide⟩ := Fin.ext (by revert c; decide +kernel)
theorem dev33 (c : Dev nD) : (⟨k0_dev33 c, k0_dev33_lt c⟩ : Dev nD) = peer c ⟨2, by decide⟩ := Fin.ext (by revert c; decide +kernel)
theorem dev34 (c : Dev nD) : (⟨k0_dev34 c, k0_dev34_lt c⟩ : Dev nD) = peer c ⟨3, by decide⟩ := Fin.ext (by revert c; decide +kernel)
theorem dev35 (c : Dev nD) : (⟨k0_dev35 c, k0_dev35_lt c⟩ : Dev nD) = peer c ⟨4, by decide⟩ := Fin.ext (by revert c; decide +kernel)
theorem dev36 (c : Dev nD) : (⟨k0_dev36 c, k0_dev36_lt c⟩ : Dev nD) = peer c ⟨5, by decide⟩ := Fin.ext (by revert c; decide +kernel)
theorem dev37 (c : Dev nD) : (⟨k0_dev37 c, k0_dev37_lt c⟩ : Dev nD) = peer c ⟨6, by decide⟩ := Fin.ext (by revert c; decide +kernel)
theorem dev38 (c : Dev nD) : (⟨k0_dev38 c, k0_dev38_lt c⟩ : Dev nD) = peer c ⟨7, by decide⟩ := Fin.ext (by revert c; decide +kernel)
theorem dev39 (c : Dev nD) : (⟨k0_dev39 c, k0_dev39_lt c⟩ : Dev nD) = peer c ⟨8, by decide⟩ := Fin.ext (by revert c; decide +kernel)
theorem dev40 (c : Dev nD) : (⟨k0_dev40 c, k0_dev40_lt c⟩ : Dev nD) = peer c ⟨9, by decide⟩ := Fin.ext (by revert c; decide +kernel)
theorem dev41 (c : Dev nD) : (⟨k0_dev41 c, k0_dev41_lt c⟩ : Dev nD) = peer c ⟨10, by decide⟩ := Fin.ext (by revert c; decide +kernel)
theorem dev42 (c : Dev nD) : (⟨k0_dev42 c, k0_dev42_lt c⟩ : Dev nD) = peer c ⟨11, by decide⟩ := Fin.ext (by revert c; decide +kernel)
theorem dev43 (c : Dev nD) : (⟨k0_dev43 c, k0_dev43_lt c⟩ : Dev nD) = peer c ⟨12, by decide⟩ := Fin.ext (by revert c; decide +kernel)
theorem dev44 (c : Dev nD) : (⟨k0_dev44 c, k0_dev44_lt c⟩ : Dev nD) = peer c ⟨13, by decide⟩ := Fin.ext (by revert c; decide +kernel)
theorem dev45 (c : Dev nD) : (⟨k0_dev45 c, k0_dev45_lt c⟩ : Dev nD) = peer c ⟨14, by decide⟩ := Fin.ext (by revert c; decide +kernel)

/-! ## From phase to phase -/

/-- The right to one block's credit on each semaphore of family `a`. -/
def credAll (c : Dev nD) (a : Fin 4) : sProp 𝕄 := bigSep Finset.univ fun k => cred (tallyAt (dCell c a k) () N)

/-- Any slot of the second landing buffer takes one block's credit. -/
theorem credit_agAt {off : Fin 3 → ℕ} (inb) :
    (agM.slice (Rect.unit (s := S16x32x512) off S1x32x512.size inb) (fun _ => rfl)).view.dmaCredit = N := rfl

/-- A device that still owes the second phase's transfers may wait for the first phase's arrivals. -/
theorem mayWait_rs (c : Dev nD) (k : Fin 15) : (levAts L lv : sProp 𝕄) ⊢ MayWait (c : Thread nD τ) (.dma (dsem 1 k)) () (owed c 15 15 0) := by
  have h : lvSem (.dma (dsem 1 k) : SemLoc sig) = 2 := by show lvFam (famOf (dsem 1 k)) = 2; rw [famOf_dsem]; rfl
  exact mayWait_of c _ 15 15 0 (by rw [h]; decide) (fun h => absurd h (lt_irrefl _)) (fun h => absurd h (lt_irrefl _))

/-- Before the first wait of a phase. -/
theorem wait_start (c : Dev nD) (a : Fin 4) (O : CellTallies nD τ sig Unit) :
    iprop((∃ W, owes (c : Thread nD τ) O W) ∗ bigSep Finset.univ (waitItem c a)) ⊢ waitSt m ρ c a O 0 := by
  unfold waitSt; rw [all_range, none_done]
  iintro ⟨HO, H⟩
  isplitl [HO]; · iexact HO
  isplitl [H]; · iexact H
  iempintro
/-- After the last wait of a phase. -/
theorem wait_end (c : Dev nD) (a : Fin 4) (O : CellTallies nD τ sig Unit) :
    waitSt m ρ c a O 15 ⊢ iprop((∃ W, owes (c : Thread nD τ) O W) ∗ bigSep Finset.univ (doneItem m ρ c a)) := by
  unfold waitSt; rw [all_range, none_left]
  iintro ⟨HO, -, H⟩
  isplitl [HO] <;> iassumption
/-- All of the first phase's transfers started: their arrivals can be waited for. -/
theorem rs_to_wait (c : Dev nD) :
    iprop(rsSt m ρ c 15 ∗ bigSep Finset.univ (waitItem c 1)) ⊢ iprop(waitSt m ρ c 1 (owed c 15 15 0) 0 ∗ credAll c 0) := by
  unfold rsSt credAll; rw [all_range, none_left]
  iintro ⟨⟨HO, -, Hcr⟩, Hw⟩
  isplitr [Hcr]
  · iapply (wait_start m ρ c 1 (owed c 15 15 0)); isplitl [HO] <;> iassumption
  iexact Hcr
/-- All of the second phase's transfers started: nothing is owed any more, and the first phase's own transfers can be
    waited for. -/
theorem ag_to_wait (c : Dev nD) :
    iprop(agSt m ρ c 15 ∗ bigSep Finset.univ (waitItem c 0)) ⊢ iprop(waitSt m ρ c 0 0 0 ∗ credAll c 2) := by
  unfold agSt credAll; rw [all_range, none_left, owed_done]
  iintro ⟨⟨HO, -, Hcr⟩, Hw⟩
  isplitr [Hcr]
  · iapply (wait_start m ρ c 0 0); isplitl [HO] <;> iassumption
  iexact Hcr

/-! ## The parts -/

/-- Part 1 of the body: it signals peers 0 to 4. -/
theorem part1 (c : Dev nD)  {Kt : (Σ' (d0 : Dev nD) (v2 : BitVec 32) (v3 : Sems sig S_) (v24 : BitVec 32), BitVec 32) → sProp 𝕄} :
    iprop(records m ρ K ∗ sigSt c 0 ∗ ∀ (x : BitVec 32) (y : BitVec 32), ((sigSt c 5) -∗ Kt ⟨c, Scalar.remsi (Scalar.divsi (Dev.word c) 1#32) 16#32, SemArray.scalar (sig.barrier 0 rfl), x, y⟩))
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part1_eq_skeleton]; unfold k0_part1_skel
  simp only [semSignalWord, semWaitWord, Prog.lift, Prog.bind_op, Prog.bind_ret, Prog.pure_eq_ret, wp_deviceId]
  iintro ⟨#HK, HS, Hk⟩
  iapply (step_signal m ρ K c ⟨0, by decide⟩ (dev1 c) rfl) $$ [HS]
  · isplitr; · iexact HK
    iexact HS
  iintro HS
  iapply (step_signal m ρ K c ⟨1, by decide⟩ (dev2 c) rfl) $$ [HS]
  · isplitr; · iexact HK
    iexact HS
  iintro HS
  iapply (step_signal m ρ K c ⟨2, by decide⟩ (dev3 c) rfl) $$ [HS]
  · isplitr; · iexact HK
    iexact HS
  iintro HS
  iapply (step_signal m ρ K c ⟨3, by decide⟩ (dev4 c) rfl) $$ [HS]
  · isplitr; · iexact HK
    iexact HS
  iintro HS
  iapply (step_signal m ρ K c ⟨4, by decide⟩ (dev5 c) rfl) $$ [HS]
  · isplitr; · iexact HK
    iexact HS
  iintro HS
  rw [wp_ret]; imodintro
  iapply Hk
  iexact HS

/-- Part 2 of the body: it signals peers 5 to 10. -/
theorem part2 (c : Dev nD) (v2 : BitVec 32) (v24 : BitVec 32) (c16_i32_20 : BitVec 32) {Kt : (Σ' (v48 : BitVec 32), BitVec 32) → sProp 𝕄} :
    iprop(records m ρ K ∗ sigSt c 5 ∗ ∀ r, ((sigSt c 11) -∗ Kt r))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl) : Sems sig S_) v24 c16_i32_20) Kt := by
  rw [k0_part2_eq_skeleton]; unfold k0_part2_skel
  simp only [semSignalWord, semWaitWord, Prog.lift, Prog.bind_op, Prog.bind_ret, Prog.pure_eq_ret, wp_deviceId]
  iintro ⟨#HK, HS, Hk⟩
  iapply (step_signal m ρ K c ⟨5, by decide⟩ (dev6 c) rfl) $$ [HS]
  · isplitr; · iexact HK
    iexact HS
  iintro HS
  iapply (step_signal m ρ K c ⟨6, by decide⟩ (dev7 c) rfl) $$ [HS]
  · isplitr; · iexact HK
    iexact HS
  iintro HS
  iapply (step_signal m ρ K c ⟨7, by decide⟩ (dev8 c) rfl) $$ [HS]
  · isplitr; · iexact HK
    iexact HS
  iintro HS
  iapply (step_signal m ρ K c ⟨8, by decide⟩ (dev9 c) rfl) $$ [HS]
  · isplitr; · iexact HK
    iexact HS
  iintro HS
  iapply (step_signal m ρ K c ⟨9, by decide⟩ (dev10 c) rfl) $$ [HS]
  · isplitr; · iexact HK
    iexact HS
  iintro HS
  iapply (step_signal m ρ K c ⟨10, by decide⟩ (dev11 c) rfl) $$ [HS]
  · isplitr; · iexact HK
    iexact HS
  iintro HS
  rw [wp_ret]; imodintro
  iapply Hk
  iexact HS

/-- Part 5 of the body: it starts transfers 0 to 1 of the first phase. -/
theorem part5 (c : Dev nD) (v2 : BitVec 32) (v111 : BitVec 32) {Kt : (PUnit) → sProp 𝕄} :
    iprop(records m ρ K ∗ rsSt m ρ c 0 ∗ ∀ r, ((rsSt m ρ c 2) -∗ Kt r))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v111) Kt := by
  rw [k0_part5_eq_skeleton]; unfold k0_part5_skel
  simp only [semSignalWord, semWaitWord, Prog.lift, Prog.bind_op, Prog.bind_ret, Prog.pure_eq_ret, wp_deviceId]
  iintro ⟨#HK, HS, Hk⟩
  iapply (step_rs m ρ K c ⟨0, by decide⟩ (dev16 c) (off1_eq c ⟨0, by decide⟩) rfl rfl rfl) $$ [HS]
  · isplitr; · iexact HK
    iexact HS
  iintro HS
  iapply (step_rs m ρ K c ⟨1, by decide⟩ (dev17 c) (off1_eq c ⟨1, by decide⟩) rfl rfl rfl) $$ [HS]
  · isplitr; · iexact HK
    iexact HS
  iintro HS
  rw [wp_ret]; imodintro
  iapply Hk
  iexact HS

/-- Part 6 of the body: it starts transfers 2 to 4 of the first phase. -/
theorem part6 (c : Dev nD) (v2 : BitVec 32) {Kt : (PUnit) → sProp 𝕄} :
    iprop(records m ρ K ∗ rsSt m ρ c 2 ∗ ∀ r, ((rsSt m ρ c 5) -∗ Kt r))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part6_eq_skeleton]; unfold k0_part6_skel
  simp only [semSignalWord, semWaitWord, Prog.lift, Prog.bind_op, Prog.bind_ret, Prog.pure_eq_ret, wp_deviceId]
  iintro ⟨#HK, HS, Hk⟩
  iapply (step_rs m ρ K c ⟨2, by decide⟩ (dev18 c) (off1_eq c ⟨2, by decide⟩) rfl rfl rfl) $$ [HS]
  · isplitr; · iexact HK
    iexact HS
  iintro HS
  iapply (step_rs m ρ K c ⟨3, by decide⟩ (dev19 c) (off1_eq c ⟨3, by decide⟩) rfl rfl rfl) $$ [HS]
  · isplitr; · iexact HK
    iexact HS
  iintro HS
  iapply (step_rs m ρ K c ⟨4, by decide⟩ (dev20 c) (off1_eq c ⟨4, by decide⟩) rfl rfl rfl) $$ [HS]
  · isplitr; · iexact HK
    iexact HS
  iintro HS
  rw [wp_ret]; imodintro
  iapply Hk
  iexact HS

/-- Part 7 of the body: it starts transfers 5 to 7 of the first phase. -/
theorem part7 (c : Dev nD) (v2 : BitVec 32) {Kt : (Σ' (v192 : BitVec 32), BitVec 32) → sProp 𝕄} :
    iprop(records m ρ K ∗ rsSt m ρ c 5 ∗ ∀ r, ((rsSt m ρ c 8) -∗ Kt r))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part7_eq_skeleton]; unfold k0_part7_skel
  simp only [semSignalWord, semWaitWord, Prog.lift, Prog.bind_op, Prog.bind_ret, Prog.pure_eq_ret, wp_deviceId]
  iintro ⟨#HK, HS, Hk⟩
  iapply (step_rs m ρ K c ⟨5, by decide⟩ (dev21 c) (off1_eq c ⟨5, by decide⟩) rfl rfl rfl) $$ [HS]
  · isplitr; · iexact HK
    iexact HS
  iintro HS
  iapply (step_rs m ρ K c ⟨6, by decide⟩ (dev22 c) (off1_eq c ⟨6, by decide⟩) rfl rfl rfl) $$ [HS]
  · isplitr; · iexact HK
    iexact HS
  iintro HS
  iapply (step_rs m ρ K c ⟨7, by decide⟩ (dev23 c) (off1_eq c ⟨7, by decide⟩) rfl rfl rfl) $$ [HS]
  · isplitr; · iexact HK
    iexact HS
  iintro HS
  rw [wp_ret]; imodintro
  iapply Hk
  iexact HS

/-- Part 8 of the body: it starts transfers 8 to 10 of the first phase. -/
theorem part8 (c : Dev nD) (v2 : BitVec 32) (v192 : BitVec 32) (c0_i32_179 : BitVec 32) {Kt : (Σ' (v220 : BitVec 32), BitVec 32) → sProp 𝕄} :
    iprop(records m ρ K ∗ rsSt m ρ c 8 ∗ ∀ r, ((rsSt m ρ c 11) -∗ Kt r))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v192 c0_i32_179) Kt := by
  rw [k0_part8_eq_skeleton]; unfold k0_part8_skel
  simp only [semSignalWord, semWaitWord, Prog.lift, Prog.bind_op, Prog.bind_ret, Prog.pure_eq_ret, wp_deviceId]
  iintro ⟨#HK, HS, Hk⟩
  iapply (step_rs m ρ K c ⟨8, by decide⟩ (dev24 c) (off1_eq c ⟨8, by decide⟩) rfl rfl rfl) $$ [HS]
  · isplitr; · iexact HK
    iexact HS
  iintro HS
  iapply (step_rs m ρ K c ⟨9, by decide⟩ (dev25 c) (off1_eq c ⟨9, by decide⟩) rfl rfl rfl) $$ [HS]
  · isplitr; · iexact HK
    iexact HS
  iintro HS
  iapply (step_rs m ρ K c ⟨10, by decide⟩ (dev26 c) (off1_eq c ⟨10, by decide⟩) rfl rfl rfl) $$ [HS]
  · isplitr; · iexact HK
    iexact HS
  iintro HS
  rw [wp_ret]; imodintro
  iapply Hk
  iexact HS

/-- Part 9 of the body: it starts transfers 11 to 12 of the first phase. -/
theorem part9 (c : Dev nD) (v2 : BitVec 32) (v220 : BitVec 32) (c16_i32_208 : BitVec 32) {Kt : (PUnit) → sProp 𝕄} :
    iprop(records m ρ K ∗ rsSt m ρ c 11 ∗ ∀ r, ((rsSt m ρ c 13) -∗ Kt r))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v220 c16_i32_208) Kt := by
  rw [k0_part9_eq_skeleton]; unfold k0_part9_skel
  simp only [semSignalWord, semWaitWord, Prog.lift, Prog.bind_op, Prog.bind_ret, Prog.pure_eq_ret, wp_deviceId]
  iintro ⟨#HK, HS, Hk⟩
  iapply (step_rs m ρ K c ⟨11, by decide⟩ (dev27 c) (off1_eq c ⟨11, by decide⟩) rfl rfl rfl) $$ [HS]
  · isplitr; · iexact HK
    iexact HS
  iintro HS
  iapply (step_rs m ρ K c ⟨12, by decide⟩ (dev28 c) (off1_eq c ⟨12, by decide⟩) rfl rfl rfl) $$ [HS]
  · isplitr; · iexact HK
    iexact HS
  iintro HS
  rw [wp_ret]; imodintro
  iapply Hk
  iexact HS

/-- Part 10 of the body: it starts transfers 13 to 14 of the first phase and waits for arrivals 0 of the first phase. -/
theorem part10 (c : Dev nD) (v2 : BitVec 32) {Kt : (PUnit) → sProp 𝕄} :
    iprop(records m ρ K ∗ rsSt m ρ c 13 ∗ bigSep Finset.univ (waitItem c 1) ∗ ∀ r, ((waitSt m ρ c 1 (owed c 15 15 0) 1 ∗ credAll c 0) -∗ Kt r))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part10_eq_skeleton]; unfold k0_part10_skel
  simp only [semSignalWord, semWaitWord, Prog.lift, Prog.bind_op, Prog.bind_ret, Prog.pure_eq_ret, wp_deviceId]
  iintro ⟨#HK, HS, Hw, Hk⟩
  iapply (step_rs m ρ K c ⟨13, by decide⟩ (dev29 c) (off1_eq c ⟨13, by decide⟩) rfl rfl rfl) $$ [HS]
  · isplitr; · iexact HK
    iexact HS
  iintro HS
  iapply (step_rs m ρ K c ⟨14, by decide⟩ (dev30 c) (off1_eq c ⟨14, by decide⟩) rfl rfl rfl) $$ [HS]
  · isplitr; · iexact HK
    iexact HS
  iintro HS
  ihave HS := (rs_to_wait m ρ c) $$ [HS Hw]
  · isplitl [HS] <;> iassumption
  icases HS with ⟨HS, Hcr⟩
  iapply (step_wait m ρ K c 1 (owed c 15 15 0) ⟨0, by decide⟩ (mayWait_rs c ⟨0, by decide⟩) rfl (credit_rs ⟨0, by decide⟩)) $$ [HS]
  · isplitr; · iexact HK
    iexact HS
  iintro HS
  rw [wp_ret]; imodintro
  iapply Hk
  isplitl [HS] <;> iassumption

/-- Part 11 of the body: it waits for arrivals 1 to 3 of the first phase. -/
theorem part11 (c : Dev nD) (v2 : BitVec 32) {Kt : (Σ' (v296 : BitVec 32), BitVec 32) → sProp 𝕄} :
    iprop(records m ρ K ∗ waitSt m ρ c 1 (owed c 15 15 0) 1 ∗ ∀ r, ((waitSt m ρ c 1 (owed c 15 15 0) 4) -∗ Kt r))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2) Kt := by
  rw [k0_part11_eq_skeleton]; unfold k0_part11_skel
  simp only [semSignalWord, semWaitWord, Prog.lift, Prog.bind_op, Prog.bind_ret, Prog.pure_eq_ret, wp_deviceId]
  iintro ⟨#HK, HS, Hk⟩
  iapply (step_wait m ρ K c 1 (owed c 15 15 0) ⟨1, by decide⟩ (mayWait_rs c ⟨1, by decide⟩) rfl (credit_rs ⟨1, by decide⟩)) $$ [HS]
  · isplitr; · iexact HK
    iexact HS
  iintro HS
  iapply (step_wait m ρ K c 1 (owed c 15 15 0) ⟨2, by decide⟩ (mayWait_rs c ⟨2, by decide⟩) rfl (credit_rs ⟨2, by decide⟩)) $$ [HS]
  · isplitr; · iexact HK
    iexact HS
  iintro HS
  iapply (step_wait m ρ K c 1 (owed c 15 15 0) ⟨3, by decide⟩ (mayWait_rs c ⟨3, by decide⟩) rfl (credit_rs ⟨3, by decide⟩)) $$ [HS]
  · isplitr; · iexact HK
    iexact HS
  iintro HS
  rw [wp_ret]; imodintro
  iapply Hk
  iexact HS

/-- Part 12 of the body: it waits for arrivals 4 to 5 of the first phase. -/
theorem part12 (c : Dev nD) (v2 : BitVec 32) (v296 : BitVec 32) (c5_i32_304 : BitVec 32) {Kt : (PUnit) → sProp 𝕄} :
    iprop(records m ρ K ∗ waitSt m ρ c 1 (owed c 15 15 0) 4 ∗ ∀ r, ((waitSt m ρ c 1 (owed c 15 15 0) 6) -∗ Kt r))
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v296 c5_i32_304) Kt := by
  rw [k0_part12_eq_skeleton]; unfold k0_part12_skel
  simp only [semSignalWord, semWaitWord, Prog.lift, Prog.bind_op, Prog.bind_ret, Prog.pure_eq_ret, wp_deviceId]
  iintro ⟨#HK, HS, Hk⟩
  iapply (step_wait m ρ K c 1 (owed c 15 15 0) ⟨4, by decide⟩ (mayWait_rs c ⟨4, by decide⟩) rfl (credit_rs ⟨4, by decide⟩)) $$ [HS]
  · isplitr; · iexact HK
    iexact HS
  iintro HS
  iapply (step_wait m ρ K c 1 (owed c 15 15 0) ⟨5, by decide⟩ (mayWait_rs c ⟨5, by decide⟩) rfl (credit_rs ⟨5, by decide⟩)) $$ [HS]
  · isplitr; · iexact HK
    iexact HS
  iintro HS
  rw [wp_ret]; imodintro
  iapply Hk
  iexact HS

/-- Part 13 of the body: it waits for arrivals 6 to 8 of the first phase. -/
theorem part13 (c : Dev nD) (v2 : BitVec 32) {Kt : (BitVec 32) → sProp 𝕄} :
    iprop(records m ρ K ∗ waitSt m ρ c 1 (owed c 15 15 0) 6 ∗ ∀ r, ((waitSt m ρ c 1 (owed c 15 15 0) 9) -∗ Kt r))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2) Kt := by
  rw [k0_part13_eq_skeleton]; unfold k0_part13_skel
  simp only [semSignalWord, semWaitWord, Prog.lift, Prog.bind_op, Prog.bind_ret, Prog.pure_eq_ret, wp_deviceId]
  iintro ⟨#HK, HS, Hk⟩
  iapply (step_wait m ρ K c 1 (owed c 15 15 0) ⟨6, by decide⟩ (mayWait_rs c ⟨6, by decide⟩) rfl (credit_rs ⟨6, by decide⟩)) $$ [HS]
  · isplitr; · iexact HK
    iexact HS
  iintro HS
  iapply (step_wait m ρ K c 1 (owed c 15 15 0) ⟨7, by decide⟩ (mayWait_rs c ⟨7, by decide⟩) rfl (credit_rs ⟨7, by decide⟩)) $$ [HS]
  · isplitr; · iexact HK
    iexact HS
  iintro HS
  iapply (step_wait m ρ K c 1 (owed c 15 15 0) ⟨8, by decide⟩ (mayWait_rs c ⟨8, by decide⟩) rfl (credit_rs ⟨8, by decide⟩)) $$ [HS]
  · isplitr; · iexact HK
    iexact HS
  iintro HS
  rw [wp_ret]; imodintro
  iapply Hk
  iexact HS

/-- Part 14 of the body: it waits for arrivals 9 to 10 of the first phase. -/
theorem part14 (c : Dev nD) (v2 : BitVec 32) (v343 : BitVec 32) {Kt : (PUnit) → sProp 𝕄} :
    iprop(records m ρ K ∗ waitSt m ρ c 1 (owed c 15 15 0) 9 ∗ ∀ r, ((waitSt m ρ c 1 (owed c 15 15 0) 11) -∗ Kt r))
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v343) Kt := by
  rw [k0_part14_eq_skeleton]; unfold k0_part14_skel
  simp only [semSignalWord, semWaitWord, Prog.lift, Prog.bind_op, Prog.bind_ret, Prog.pure_eq_ret, wp_deviceId]
  iintro ⟨#HK, HS, Hk⟩
  iapply (step_wait m ρ K c 1 (owed c 15 15 0) ⟨9, by decide⟩ (mayWait_rs c ⟨9, by decide⟩) rfl (credit_rs ⟨9, by decide⟩)) $$ [HS]
  · isplitr; · iexact HK
    iexact HS
  iintro HS
  iapply (step_wait m ρ K c 1 (owed c 15 15 0) ⟨10, by decide⟩ (mayWait_rs c ⟨10, by decide⟩) rfl (credit_rs ⟨10, by decide⟩)) $$ [HS]
  · isplitr; · iexact HK
    iexact HS
  iintro HS
  rw [wp_ret]; imodintro
  iapply Hk
  iexact HS

/-- Part 15 of the body: it waits for arrivals 11 to 13 of the first phase. -/
theorem part15 (c : Dev nD) (v2 : BitVec 32) {Kt : (PUnit) → sProp 𝕄} :
    iprop(records m ρ K ∗ waitSt m ρ c 1 (owed c 15 15 0) 11 ∗ ∀ r, ((waitSt m ρ c 1 (owed c 15 15 0) 14) -∗ Kt r))
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2) Kt := by
  rw [k0_part15_eq_skeleton]; unfold k0_part15_skel
  simp only [semSignalWord, semWaitWord, Prog.lift, Prog.bind_op, Prog.bind_ret, Prog.pure_eq_ret, wp_deviceId]
  iintro ⟨#HK, HS, Hk⟩
  iapply (step_wait m ρ K c 1 (owed c 15 15 0) ⟨11, by decide⟩ (mayWait_rs c ⟨11, by decide⟩) rfl (credit_rs ⟨11, by decide⟩)) $$ [HS]
  · isplitr; · iexact HK
    iexact HS
  iintro HS
  iapply (step_wait m ρ K c 1 (owed c 15 15 0) ⟨12, by decide⟩ (mayWait_rs c ⟨12, by decide⟩) rfl (credit_rs ⟨12, by decide⟩)) $$ [HS]
  · isplitr; · iexact HK
    iexact HS
  iintro HS
  iapply (step_wait m ρ K c 1 (owed c 15 15 0) ⟨13, by decide⟩ (mayWait_rs c ⟨13, by decide⟩) rfl (credit_rs ⟨13, by decide⟩)) $$ [HS]
  · isplitr; · iexact HK
    iexact HS
  iintro HS
  rw [wp_ret]; imodintro
  iapply Hk
  iexact HS

/-- Part 17 of the body: it starts transfers 0 to 2 of the second phase. -/
theorem part17 (c : Dev nD) (v2 : BitVec 32) (v421 : BitVec 32) (c1_i32_465 : BitVec 32) {Kt : (PUnit) → sProp 𝕄} :
    iprop(records m ρ K ∗ agSt m ρ c 0 ∗ ∀ r, ((agSt m ρ c 3) -∗ Kt r))
      ⊢ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v421 c1_i32_465) Kt := by
  rw [k0_part17_eq_skeleton]; unfold k0_part17_skel
  simp only [semSignalWord, semWaitWord, Prog.lift, Prog.bind_op, Prog.bind_ret, Prog.pure_eq_ret, wp_deviceId]
  iintro ⟨#HK, HS, Hk⟩
  iapply (step_ag m ρ K c ⟨0, by decide⟩ (dev31 c) (agSlot_of c (off4_eq c) _) rfl rfl) $$ [HS]
  · isplitr; · iexact HK
    iexact HS
  iintro HS
  iapply (step_ag m ρ K c ⟨1, by decide⟩ (dev32 c) (agSlot_of c (off4_eq c) _) rfl rfl) $$ [HS]
  · isplitr; · iexact HK
    iexact HS
  iintro HS
  iapply (step_ag m ρ K c ⟨2, by decide⟩ (dev33 c) (agSlot_of c (off4_eq c) _) rfl rfl) $$ [HS]
  · isplitr; · iexact HK
    iexact HS
  iintro HS
  rw [wp_ret]; imodintro
  iapply Hk
  iexact HS

/-- Part 18 of the body: it starts transfers 3 to 6 of the second phase. -/
theorem part18 (c : Dev nD) (v2 : BitVec 32) {Kt : (BitVec 32) → sProp 𝕄} :
    iprop(records m ρ K ∗ agSt m ρ c 3 ∗ ∀ r, ((agSt m ρ c 7) -∗ Kt r))
      ⊢ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part18_eq_skeleton]; unfold k0_part18_skel
  simp only [semSignalWord, semWaitWord, Prog.lift, Prog.bind_op, Prog.bind_ret, Prog.pure_eq_ret, wp_deviceId]
  iintro ⟨#HK, HS, Hk⟩
  iapply (step_ag m ρ K c ⟨3, by decide⟩ (dev34 c) (agSlot_of c (off4_eq c) _) rfl rfl) $$ [HS]
  · isplitr; · iexact HK
    iexact HS
  iintro HS
  iapply (step_ag m ρ K c ⟨4, by decide⟩ (dev35 c) (agSlot_of c (off4_eq c) _) rfl rfl) $$ [HS]
  · isplitr; · iexact HK
    iexact HS
  iintro HS
  iapply (step_ag m ρ K c ⟨5, by decide⟩ (dev36 c) (agSlot_of c (off4_eq c) _) rfl rfl) $$ [HS]
  · isplitr; · iexact HK
    iexact HS
  iintro HS
  iapply (step_ag m ρ K c ⟨6, by decide⟩ (dev37 c) (agSlot_of c (off4_eq c) _) rfl rfl) $$ [HS]
  · isplitr; · iexact HK
    iexact HS
  iintro HS
  rw [wp_ret]; imodintro
  iapply Hk
  iexact HS

/-- Part 19 of the body: it starts transfers 7 to 9 of the second phase. -/
theorem part19 (c : Dev nD) (v2 : BitVec 32) (c8_i32_517 : BitVec 32) {Kt : (Σ' (v511 : BitVec 32), BitVec 32) → sProp 𝕄} :
    iprop(records m ρ K ∗ agSt m ρ c 7 ∗ ∀ r, ((agSt m ρ c 10) -∗ Kt r))
      ⊢ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c8_i32_517) Kt := by
  rw [k0_part19_eq_skeleton]; unfold k0_part19_skel
  simp only [semSignalWord, semWaitWord, Prog.lift, Prog.bind_op, Prog.bind_ret, Prog.pure_eq_ret, wp_deviceId]
  iintro ⟨#HK, HS, Hk⟩
  iapply (step_ag m ρ K c ⟨7, by decide⟩ (dev38 c) (agSlot_of c (off4_eq c) _) rfl rfl) $$ [HS]
  · isplitr; · iexact HK
    iexact HS
  iintro HS
  iapply (step_ag m ρ K c ⟨8, by decide⟩ (dev39 c) (agSlot_of c (off4_eq c) _) rfl rfl) $$ [HS]
  · isplitr; · iexact HK
    iexact HS
  iintro HS
  iapply (step_ag m ρ K c ⟨9, by decide⟩ (dev40 c) (agSlot_of c (off4_eq c) _) rfl rfl) $$ [HS]
  · isplitr; · iexact HK
    iexact HS
  iintro HS
  rw [wp_ret]; imodintro
  iapply Hk
  iexact HS

/-- Part 20 of the body: it starts transfers 10 to 12 of the second phase. -/
theorem part20 (c : Dev nD) (v2 : BitVec 32) (v511 : BitVec 32) (c1_i32_545 : BitVec 32) {Kt : (PUnit) → sProp 𝕄} :
    iprop(records m ρ K ∗ agSt m ρ c 10 ∗ ∀ r, ((agSt m ρ c 13) -∗ Kt r))
      ⊢ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v511 c1_i32_545) Kt := by
  rw [k0_part20_eq_skeleton]; unfold k0_part20_skel
  simp only [semSignalWord, semWaitWord, Prog.lift, Prog.bind_op, Prog.bind_ret, Prog.pure_eq_ret, wp_deviceId]
  iintro ⟨#HK, HS, Hk⟩
  iapply (step_ag m ρ K c ⟨10, by decide⟩ (dev41 c) (agSlot_of c (off4_eq c) _) rfl rfl) $$ [HS]
  · isplitr; · iexact HK
    iexact HS
  iintro HS
  iapply (step_ag m ρ K c ⟨11, by decide⟩ (dev42 c) (agSlot_of c (off4_eq c) _) rfl rfl) $$ [HS]
  · isplitr; · iexact HK
    iexact HS
  iintro HS
  iapply (step_ag m ρ K c ⟨12, by decide⟩ (dev43 c) (agSlot_of c (off4_eq c) _) rfl rfl) $$ [HS]
  · isplitr; · iexact HK
    iexact HS
  iintro HS
  rw [wp_ret]; imodintro
  iapply Hk
  iexact HS

/-- Part 21 of the body: it starts transfers 13 to 14 of the second phase and waits for own transfers 0 to 1 of the first phase. -/
theorem part21 (c : Dev nD) (v2 : BitVec 32) {Kt : (PUnit) → sProp 𝕄} :
    iprop(records m ρ K ∗ agSt m ρ c 13 ∗ bigSep Finset.univ (waitItem c 0) ∗ ∀ r, ((waitSt m ρ c 0 0 2 ∗ credAll c 2) -∗ Kt r))
      ⊢ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part21_eq_skeleton]; unfold k0_part21_skel
  simp only [semSignalWord, semWaitWord, Prog.lift, Prog.bind_op, Prog.bind_ret, Prog.pure_eq_ret, wp_deviceId]
  iintro ⟨#HK, HS, Hw, Hk⟩
  iapply (step_ag m ρ K c ⟨13, by decide⟩ (dev44 c) (agSlot_of c (off4_eq c) _) rfl rfl) $$ [HS]
  · isplitr; · iexact HK
    iexact HS
  iintro HS
  iapply (step_ag m ρ K c ⟨14, by decide⟩ (dev45 c) (agSlot_of c (off4_eq c) _) rfl rfl) $$ [HS]
  · isplitr; · iexact HK
    iexact HS
  iintro HS
  ihave HS := (ag_to_wait m ρ c) $$ [HS Hw]
  · isplitl [HS] <;> iassumption
  icases HS with ⟨HS, Hcr⟩
  iapply (step_wait m ρ K c 0 0 ⟨0, by decide⟩ (mayWait_zero c _) rfl (credit_acc ⟨0, by decide⟩)) $$ [HS]
  · isplitr; · iexact HK
    iexact HS
  iintro HS
  iapply (step_wait m ρ K c 0 0 ⟨1, by decide⟩ (mayWait_zero c _) rfl (credit_acc ⟨0, by decide⟩)) $$ [HS]
  · isplitr; · iexact HK
    iexact HS
  iintro HS
  rw [wp_ret]; imodintro
  iapply Hk
  isplitl [HS] <;> iassumption

/-- Part 22 of the body: it waits for own transfers 2 to 5 of the first phase. -/
theorem part22 (c : Dev nD)  {Kt : (PUnit) → sProp 𝕄} :
    iprop(records m ρ K ∗ waitSt m ρ c 0 0 2 ∗ ∀ r, ((waitSt m ρ c 0 0 6) -∗ Kt r))
      ⊢ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part22_eq_skeleton]; unfold k0_part22_skel
  simp only [semSignalWord, semWaitWord, Prog.lift, Prog.bind_op, Prog.bind_ret, Prog.pure_eq_ret, wp_deviceId]
  iintro ⟨#HK, HS, Hk⟩
  iapply (step_wait m ρ K c 0 0 ⟨2, by decide⟩ (mayWait_zero c _) rfl (credit_acc ⟨0, by decide⟩)) $$ [HS]
  · isplitr; · iexact HK
    iexact HS
  iintro HS
  iapply (step_wait m ρ K c 0 0 ⟨3, by decide⟩ (mayWait_zero c _) rfl (credit_acc ⟨0, by decide⟩)) $$ [HS]
  · isplitr; · iexact HK
    iexact HS
  iintro HS
  iapply (step_wait m ρ K c 0 0 ⟨4, by decide⟩ (mayWait_zero c _) rfl (credit_acc ⟨0, by decide⟩)) $$ [HS]
  · isplitr; · iexact HK
    iexact HS
  iintro HS
  iapply (step_wait m ρ K c 0 0 ⟨5, by decide⟩ (mayWait_zero c _) rfl (credit_acc ⟨0, by decide⟩)) $$ [HS]
  · isplitr; · iexact HK
    iexact HS
  iintro HS
  rw [wp_ret]; imodintro
  iapply Hk
  iexact HS

/-- Part 23 of the body: it waits for own transfers 6 to 10 of the first phase. -/
theorem part23 (c : Dev nD)  {Kt : (PUnit) → sProp 𝕄} :
    iprop(records m ρ K ∗ waitSt m ρ c 0 0 6 ∗ ∀ r, ((waitSt m ρ c 0 0 11) -∗ Kt r))
      ⊢ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part23_eq_skeleton]; unfold k0_part23_skel
  simp only [semSignalWord, semWaitWord, Prog.lift, Prog.bind_op, Prog.bind_ret, Prog.pure_eq_ret, wp_deviceId]
  iintro ⟨#HK, HS, Hk⟩
  iapply (step_wait m ρ K c 0 0 ⟨6, by decide⟩ (mayWait_zero c _) rfl (credit_acc ⟨0, by decide⟩)) $$ [HS]
  · isplitr; · iexact HK
    iexact HS
  iintro HS
  iapply (step_wait m ρ K c 0 0 ⟨7, by decide⟩ (mayWait_zero c _) rfl (credit_acc ⟨0, by decide⟩)) $$ [HS]
  · isplitr; · iexact HK
    iexact HS
  iintro HS
  iapply (step_wait m ρ K c 0 0 ⟨8, by decide⟩ (mayWait_zero c _) rfl (credit_acc ⟨0, by decide⟩)) $$ [HS]
  · isplitr; · iexact HK
    iexact HS
  iintro HS
  iapply (step_wait m ρ K c 0 0 ⟨9, by decide⟩ (mayWait_zero c _) rfl (credit_acc ⟨0, by decide⟩)) $$ [HS]
  · isplitr; · iexact HK
    iexact HS
  iintro HS
  iapply (step_wait m ρ K c 0 0 ⟨10, by decide⟩ (mayWait_zero c _) rfl (credit_acc ⟨0, by decide⟩)) $$ [HS]
  · isplitr; · iexact HK
    iexact HS
  iintro HS
  rw [wp_ret]; imodintro
  iapply Hk
  iexact HS

/-- Part 24 of the body: it waits for own transfers 11 to 14 of the first phase. -/
theorem part24 (c : Dev nD) (v2 : BitVec 32) {Kt : (BitVec 32) → sProp 𝕄} :
    iprop(records m ρ K ∗ waitSt m ρ c 0 0 11 ∗ ∀ r, ((waitSt m ρ c 0 0 15) -∗ Kt r))
      ⊢ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2) Kt := by
  rw [k0_part24_eq_skeleton]; unfold k0_part24_skel
  simp only [semSignalWord, semWaitWord, Prog.lift, Prog.bind_op, Prog.bind_ret, Prog.pure_eq_ret, wp_deviceId]
  iintro ⟨#HK, HS, Hk⟩
  iapply (step_wait m ρ K c 0 0 ⟨11, by decide⟩ (mayWait_zero c _) rfl (credit_acc ⟨0, by decide⟩)) $$ [HS]
  · isplitr; · iexact HK
    iexact HS
  iintro HS
  iapply (step_wait m ρ K c 0 0 ⟨12, by decide⟩ (mayWait_zero c _) rfl (credit_acc ⟨0, by decide⟩)) $$ [HS]
  · isplitr; · iexact HK
    iexact HS
  iintro HS
  iapply (step_wait m ρ K c 0 0 ⟨13, by decide⟩ (mayWait_zero c _) rfl (credit_acc ⟨0, by decide⟩)) $$ [HS]
  · isplitr; · iexact HK
    iexact HS
  iintro HS
  iapply (step_wait m ρ K c 0 0 ⟨14, by decide⟩ (mayWait_zero c _) rfl (credit_acc ⟨0, by decide⟩)) $$ [HS]
  · isplitr; · iexact HK
    iexact HS
  iintro HS
  rw [wp_ret]; imodintro
  iapply Hk
  iexact HS

/-- Part 25 of the body: it waits for arrivals 0 to 2 of the second phase. -/
theorem part25 (c : Dev nD) (v2 : BitVec 32) (v617 : BitVec 32) {Kt : (PUnit) → sProp 𝕄} :
    iprop(records m ρ K ∗ waitSt m ρ c 3 0 0 ∗ ∀ r, ((waitSt m ρ c 3 0 3) -∗ Kt r))
      ⊢ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v617) Kt := by
  rw [k0_part25_eq_skeleton]; unfold k0_part25_skel
  simp only [semSignalWord, semWaitWord, Prog.lift, Prog.bind_op, Prog.bind_ret, Prog.pure_eq_ret, wp_deviceId]
  iintro ⟨#HK, HS, Hk⟩
  iapply (step_wait m ρ K c 3 0 ⟨0, by decide⟩ (mayWait_zero c _) rfl (credit_agAt _)) $$ [HS]
  · isplitr; · iexact HK
    iexact HS
  iintro HS
  iapply (step_wait m ρ K c 3 0 ⟨1, by decide⟩ (mayWait_zero c _) rfl (credit_agAt _)) $$ [HS]
  · isplitr; · iexact HK
    iexact HS
  iintro HS
  iapply (step_wait m ρ K c 3 0 ⟨2, by decide⟩ (mayWait_zero c _) rfl (credit_agAt _)) $$ [HS]
  · isplitr; · iexact HK
    iexact HS
  iintro HS
  rw [wp_ret]; imodintro
  iapply Hk
  iexact HS

/-- Part 26 of the body: it waits for arrivals 3 to 6 of the second phase. -/
theorem part26 (c : Dev nD) (v2 : BitVec 32) {Kt : (BitVec 32) → sProp 𝕄} :
    iprop(records m ρ K ∗ waitSt m ρ c 3 0 3 ∗ ∀ r, ((waitSt m ρ c 3 0 7) -∗ Kt r))
      ⊢ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part26_eq_skeleton]; unfold k0_part26_skel
  simp only [semSignalWord, semWaitWord, Prog.lift, Prog.bind_op, Prog.bind_ret, Prog.pure_eq_ret, wp_deviceId]
  iintro ⟨#HK, HS, Hk⟩
  iapply (step_wait m ρ K c 3 0 ⟨3, by decide⟩ (mayWait_zero c _) rfl (credit_agAt _)) $$ [HS]
  · isplitr; · iexact HK
    iexact HS
  iintro HS
  iapply (step_wait m ρ K c 3 0 ⟨4, by decide⟩ (mayWait_zero c _) rfl (credit_agAt _)) $$ [HS]
  · isplitr; · iexact HK
    iexact HS
  iintro HS
  iapply (step_wait m ρ K c 3 0 ⟨5, by decide⟩ (mayWait_zero c _) rfl (credit_agAt _)) $$ [HS]
  · isplitr; · iexact HK
    iexact HS
  iintro HS
  iapply (step_wait m ρ K c 3 0 ⟨6, by decide⟩ (mayWait_zero c _) rfl (credit_agAt _)) $$ [HS]
  · isplitr; · iexact HK
    iexact HS
  iintro HS
  rw [wp_ret]; imodintro
  iapply Hk
  iexact HS

/-- Part 27 of the body: it waits for arrivals 7 to 9 of the second phase. -/
theorem part27 (c : Dev nD) (v2 : BitVec 32) (c16_i32_779 : BitVec 32) {Kt : (BitVec 32) → sProp 𝕄} :
    iprop(records m ρ K ∗ waitSt m ρ c 3 0 7 ∗ ∀ r, ((waitSt m ρ c 3 0 10) -∗ Kt r))
      ⊢ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c16_i32_779) Kt := by
  rw [k0_part27_eq_skeleton]; unfold k0_part27_skel
  simp only [semSignalWord, semWaitWord, Prog.lift, Prog.bind_op, Prog.bind_ret, Prog.pure_eq_ret, wp_deviceId]
  iintro ⟨#HK, HS, Hk⟩
  iapply (step_wait m ρ K c 3 0 ⟨7, by decide⟩ (mayWait_zero c _) rfl (credit_agAt _)) $$ [HS]
  · isplitr; · iexact HK
    iexact HS
  iintro HS
  iapply (step_wait m ρ K c 3 0 ⟨8, by decide⟩ (mayWait_zero c _) rfl (credit_agAt _)) $$ [HS]
  · isplitr; · iexact HK
    iexact HS
  iintro HS
  iapply (step_wait m ρ K c 3 0 ⟨9, by decide⟩ (mayWait_zero c _) rfl (credit_agAt _)) $$ [HS]
  · isplitr; · iexact HK
    iexact HS
  iintro HS
  rw [wp_ret]; imodintro
  iapply Hk
  iexact HS

/-- Part 28 of the body: it waits for arrivals 10 to 12 of the second phase. -/
theorem part28 (c : Dev nD) (v2 : BitVec 32) (v697 : BitVec 32) {Kt : (PUnit) → sProp 𝕄} :
    iprop(records m ρ K ∗ waitSt m ρ c 3 0 10 ∗ ∀ r, ((waitSt m ρ c 3 0 13) -∗ Kt r))
      ⊢ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v697) Kt := by
  rw [k0_part28_eq_skeleton]; unfold k0_part28_skel
  simp only [semSignalWord, semWaitWord, Prog.lift, Prog.bind_op, Prog.bind_ret, Prog.pure_eq_ret, wp_deviceId]
  iintro ⟨#HK, HS, Hk⟩
  iapply (step_wait m ρ K c 3 0 ⟨10, by decide⟩ (mayWait_zero c _) rfl (credit_agAt _)) $$ [HS]
  · isplitr; · iexact HK
    iexact HS
  iintro HS
  iapply (step_wait m ρ K c 3 0 ⟨11, by decide⟩ (mayWait_zero c _) rfl (credit_agAt _)) $$ [HS]
  · isplitr; · iexact HK
    iexact HS
  iintro HS
  iapply (step_wait m ρ K c 3 0 ⟨12, by decide⟩ (mayWait_zero c _) rfl (credit_agAt _)) $$ [HS]
  · isplitr; · iexact HK
    iexact HS
  iintro HS
  rw [wp_ret]; imodintro
  iapply Hk
  iexact HS

/-- Part 30 of the body: it waits for own transfers 2 to 7 of the second phase. -/
theorem part30 (c : Dev nD)  {Kt : (PUnit) → sProp 𝕄} :
    iprop(records m ρ K ∗ waitSt m ρ c 2 0 2 ∗ ∀ r, ((waitSt m ρ c 2 0 8) -∗ Kt r))
      ⊢ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part30_eq_skeleton]; unfold k0_part30_skel
  simp only [semSignalWord, semWaitWord, Prog.lift, Prog.bind_op, Prog.bind_ret, Prog.pure_eq_ret, wp_deviceId]
  iintro ⟨#HK, HS, Hk⟩
  iapply (step_wait m ρ K c 2 0 ⟨2, by decide⟩ (mayWait_zero c _) rfl rfl) $$ [HS]
  · isplitr; · iexact HK
    iexact HS
  iintro HS
  iapply (step_wait m ρ K c 2 0 ⟨3, by decide⟩ (mayWait_zero c _) rfl rfl) $$ [HS]
  · isplitr; · iexact HK
    iexact HS
  iintro HS
  iapply (step_wait m ρ K c 2 0 ⟨4, by decide⟩ (mayWait_zero c _) rfl rfl) $$ [HS]
  · isplitr; · iexact HK
    iexact HS
  iintro HS
  iapply (step_wait m ρ K c 2 0 ⟨5, by decide⟩ (mayWait_zero c _) rfl rfl) $$ [HS]
  · isplitr; · iexact HK
    iexact HS
  iintro HS
  iapply (step_wait m ρ K c 2 0 ⟨6, by decide⟩ (mayWait_zero c _) rfl rfl) $$ [HS]
  · isplitr; · iexact HK
    iexact HS
  iintro HS
  iapply (step_wait m ρ K c 2 0 ⟨7, by decide⟩ (mayWait_zero c _) rfl rfl) $$ [HS]
  · isplitr; · iexact HK
    iexact HS
  iintro HS
  rw [wp_ret]; imodintro
  iapply Hk
  iexact HS

/-- Part 31 of the body: it waits for own transfers 8 to 13 of the second phase. -/
theorem part31 (c : Dev nD)  {Kt : (PUnit) → sProp 𝕄} :
    iprop(records m ρ K ∗ waitSt m ρ c 2 0 8 ∗ ∀ r, ((waitSt m ρ c 2 0 14) -∗ Kt r))
      ⊢ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part31_eq_skeleton]; unfold k0_part31_skel
  simp only [semSignalWord, semWaitWord, Prog.lift, Prog.bind_op, Prog.bind_ret, Prog.pure_eq_ret, wp_deviceId]
  iintro ⟨#HK, HS, Hk⟩
  iapply (step_wait m ρ K c 2 0 ⟨8, by decide⟩ (mayWait_zero c _) rfl rfl) $$ [HS]
  · isplitr; · iexact HK
    iexact HS
  iintro HS
  iapply (step_wait m ρ K c 2 0 ⟨9, by decide⟩ (mayWait_zero c _) rfl rfl) $$ [HS]
  · isplitr; · iexact HK
    iexact HS
  iintro HS
  iapply (step_wait m ρ K c 2 0 ⟨10, by decide⟩ (mayWait_zero c _) rfl rfl) $$ [HS]
  · isplitr; · iexact HK
    iexact HS
  iintro HS
  iapply (step_wait m ρ K c 2 0 ⟨11, by decide⟩ (mayWait_zero c _) rfl rfl) $$ [HS]
  · isplitr; · iexact HK
    iexact HS
  iintro HS
  iapply (step_wait m ρ K c 2 0 ⟨12, by decide⟩ (mayWait_zero c _) rfl rfl) $$ [HS]
  · isplitr; · iexact HK
    iexact HS
  iintro HS
  iapply (step_wait m ρ K c 2 0 ⟨13, by decide⟩ (mayWait_zero c _) rfl rfl) $$ [HS]
  · isplitr; · iexact HK
    iexact HS
  iintro HS
  rw [wp_ret]; imodintro
  iapply Hk
  iexact HS

end Cert.KernelIdeal.Moe

end
-- ==== Proof.Compute.lean ====
/-
# The parts of the body that load and store

Four of the body's thirty-one parts move data between a device's own buffers and its registers: the two that compute the
partial sum, the one that finishes the device's block, and the one that writes the result.
-/
module

public import proofs.«01_k».proof.Proof.Parts

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-! ## The buffers held whole -/

abbrev xPts (c : Dev nD) (f : (cc0_stg0_0 : Ref sig .tc).ty.Contents (Elt F)) : sProp 𝕄 := ((c : Thread nD τ).loc cc0_stg0_0) ↦{fullShare} f
abbrev rwPts (c : Dev nD) (f : (cc0_stg1_0 : Ref sig .tc).ty.Contents (Elt F)) : sProp 𝕄 := ((c : Thread nD τ).loc cc0_stg1_0) ↦{fullShare} f
abbrev idxPts (c : Dev nD) (f : (cc0_stg2_0 : Ref sig .tc).ty.Contents (Elt F)) : sProp 𝕄 := ((c : Thread nD τ).loc cc0_stg2_0) ↦{fullShare} f
abbrev ewPts (c : Dev nD) (f : (cc0_stg3_0 : Ref sig .tc).ty.Contents (Elt F)) : sProp 𝕄 := ((c : Thread nD τ).loc cc0_stg3_0) ↦{fullShare} f
abbrev swPts (c : Dev nD) (f : (cc0_stg4_0 : Ref sig .tc).ty.Contents (Elt F)) : sProp 𝕄 := ((c : Thread nD τ).loc cc0_stg4_0) ↦{fullShare} f
abbrev outPts (c : Dev nD) (f : (cc0_stg5_0 : Ref sig .tc).ty.Contents (Elt F)) : sProp 𝕄 := ((c : Thread nD τ).loc cc0_stg5_0) ↦{fullShare} f
abbrev accAll (c : Dev nD) (f : (cc0_scratch0 : Ref sig .tc).ty.Contents (Elt F)) : sProp 𝕄 := ((c : Thread nD τ).loc cc0_scratch0) ↦{fullShare} f
abbrev rsWhole (c : Dev nD) (f : (cc0_scratch1 : Ref sig .tc).ty.Contents (Elt F)) : sProp 𝕄 := ((c : Thread nD τ).loc cc0_scratch1) ↦{fullShare} f
abbrev chunkAll (c : Dev nD) (f : (cc0_scratch2 : Ref sig .tc).ty.Contents (Elt F)) : sProp 𝕄 := ((c : Thread nD τ).loc cc0_scratch2) ↦{fullShare} f
abbrev agWhole (c : Dev nD) (f : (cc0_scratch3 : Ref sig .tc).ty.Contents (Elt F)) : sProp 𝕄 := ((c : Thread nD τ).loc cc0_scratch3) ↦{fullShare} f

theorem zero2 : (![0, 0] : Fin 2 → ℕ) = fun _ => 0 := by funext a; fin_cases a <;> rfl
theorem zero3 : (![0, 0, 0] : Fin 3 → ℕ) = fun _ => 0 := by funext a; fin_cases a <;> rfl

/-! ## What the loads read and the stores leave -/

theorem read_x (c : Dev nD) (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 zero2 _ f
theorem read_rw (f : (cc0_stg1_0 : Ref sig .tc).ty.Contents (Elt F)) :
    (rwM : Memref sig .tc .vmem S256x32 .f32).view.readAt (Elt F) (Rect.unit (s := S256x32) ![0, 0] S256x32.size inb_S256x32_S256x32_0_0).toLoadRect f = f :=
  Memref.readAt_unit_zero (Elt F) cc0_stg1_0 zero2 _ f
theorem read_idx (f : (cc0_stg2_0 : Ref sig .tc).ty.Contents (Elt F)) :
    (idxM : Memref sig .tc .vmem S512x1 .i32).view.readAt (Elt F) (Rect.unit (s := S512x1) ![0, 0] S512x1.size inb_S512x1_S512x1_0_0).toLoadRect f = f :=
  Memref.readAt_unit_zero (Elt F) cc0_stg2_0 zero2 _ f
theorem read_sw (f : (cc0_stg4_0 : Ref sig .tc).ty.Contents (Elt F)) :
    (swM : Memref sig .tc .vmem S256x512 .f32).view.readAt (Elt F) (Rect.unit (s := S256x512) ![0, 0] S256x512.size inb_S256x512_S256x512_0_0).toLoadRect f = f :=
  Memref.readAt_unit_zero (Elt F) cc0_stg4_0 zero2 _ f
theorem read_rs (f : (cc0_scratch1 : Ref sig .tc).ty.Contents (Elt F)) :
    (rsM : Memref sig .tc .vmem S15x32x512 .bf16).view.readAt (Elt F) (Rect.unit (s := S15x32x512) ![0, 0, 0] S15x32x512.size inb_S15x32x512_S15x32x512_0_0_0).toLoadRect f = f :=
  Memref.readAt_unit_zero (Elt F) cc0_scratch1 zero3 _ f
theorem read_ag (f : (cc0_scratch3 : Ref sig .tc).ty.Contents (Elt F)) :
    (agM : Memref sig .tc .vmem S16x32x512 .bf16).view.readAt (Elt F) (Rect.unit (s := S16x32x512) ![0, 0, 0] S16x32x512.size inb_S16x32x512_S16x32x512_0_0_0).toLoadRect f = f :=
  Memref.readAt_unit_zero (Elt F) cc0_scratch3 zero3 _ f
theorem write_acc (f w : (cc0_scratch0 : Ref sig .tc).ty.Contents (Elt F)) :
    ((accM : Memref sig .tc .vmem S16x32x512 .bf16).access (Rect.unit (s := S16x32x512) ![0, 0, 0] S16x32x512.size inb_S16x32x512_S16x32x512_0_0_0)).write (Elt F) f w Finset.univ = w :=
  Memref.write_access_unit_zero_univ (Elt F) cc0_scratch0 zero3 _ f w
theorem write_chunk (f w : (cc0_scratch2 : Ref sig .tc).ty.Contents (Elt F)) :
    ((chunkM : Memref sig .tc .vmem S1x32x512 .bf16).access (Rect.unit (s := S1x32x512) ![0, 0, 0] S1x32x512.size inb_S1x32x512_S1x32x512_0_0_0)).write (Elt F) f w Finset.univ = w :=
  Memref.write_access_unit_zero_univ (Elt F) cc0_scratch2 zero3 _ f w
theorem write_out (f w : (cc0_stg5_0 : Ref sig .tc).ty.Contents (Elt F)) :
    ((outM : Memref sig .tc .vmem S512x512 .f32).access (Rect.unit (s := S512x512) ![0, 0] S512x512.size inb_S512x512_S512x512_0_0)).write (Elt F) f w Finset.univ = w :=
  Memref.write_access_unit_zero_univ (Elt F) cc0_stg5_0 zero2 _ f w
/-- The load of the device's own slot of its partial sum, at the offset the kernel computes. -/
theorem read_accOwn (c : Dev nD) {off : Fin 3 → ℕ} (h : off = ![c.val, 0, 0]) (inb) :
    (accM : Memref sig .tc .vmem S16x32x512 .bf16).view.readAt (Elt F) (Rect.unit (s := S16x32x512) off S1x32x512.size inb).toLoadRect (accAt m ρ c) = accOwn m ρ c := by
  subst h; rfl
/-- The load of the device's own tokens. -/
theorem read_xOwn (c : Dev nD) {off : Fin 2 → ℕ} (h : off = ![32 * c.val, 0]) (inb) :
    (xM : Memref sig .tc .vmem S512x256 .f32).view.readAt (Elt F) (Rect.unit (s := S512x256) off S32x256.size inb).toLoadRect (xAt m ρ c) = xOwn m ρ c := by
  subst h; rfl
/-- A load at the device's own slot of a sixteen-slot buffer stays in that slot. -/
theorem own_load_sub (c : Dev nD) {off : Fin 3 → ℕ} (h : off = ![c.val, 0, 0]) (inb) :
    (accM : Memref sig .tc .vmem S16x32x512 .bf16).view.setOn (Rect.unit (s := S16x32x512) off S1x32x512.size inb).toLoadRect.set ⊆ (accSlot c).view.set := by
  subst h; exact subset_of_eq (View.set_slice _ _).symm
theorem own_ag_load_sub (c : Dev nD) {off : Fin 3 → ℕ} (h : off = ![c.val, 0, 0]) (inb) :
    (agM : Memref sig .tc .vmem S16x32x512 .bf16).view.setOn (Rect.unit (s := S16x32x512) off S1x32x512.size inb).toLoadRect.set ⊆ (agSlot c).view.set := by
  subst h; exact subset_of_eq (View.set_slice _ _).symm

/-- A device is none of its own sources, and none of its own peers. -/
theorem not_src (c : Dev nD) : c ∉ Finset.univ.map ⟨src c, src_inj c⟩ := by
  intro h; obtain ⟨k, -, hk⟩ := Finset.mem_map.1 h; exact src_ne c k hk
theorem not_peer (c : Dev nD) : c ∉ Finset.univ.map ⟨peer c, peer_inj c⟩ := by
  intro h; obtain ⟨k, -, hk⟩ := Finset.mem_map.1 h; exact peer_ne c k hk

theorem own_ag_store_sub (c : Dev nD) {off : Fin 3 → ℕ} (h : off = ![c.val, 0, 0]) (inb) :
    ((agM : Memref sig .tc .vmem S16x32x512 .bf16).access (Rect.unit (s := S16x32x512) off S1x32x512.size inb)).setOn Finset.univ ⊆ (agSlot c).view.set := by
  subst h; exact subset_rfl
/-- The store of the finished block into the device's own slot of the second landing buffer leaves that part of its final
    contents. -/
theorem stored_own (c : Dev nD) (fd : (cc0_scratch3 : Ref sig .tc).ty.Contents (Elt F)) {off : Fin 3 → ℕ} (h : off = ![c.val, 0, 0]) (inb) :
    (((agM : Memref sig .tc .vmem S16x32x512 .bf16).access (Rect.unit (s := S16x32x512) off S1x32x512.size inb)).loc (c : Thread nD τ) ↦[(agSlot c).view.set]{fullShare}
        ((agM : Memref sig .tc .vmem S16x32x512 .bf16).access (Rect.unit (s := S16x32x512) off S1x32x512.size inb)).write (Elt F) fd
          (k0_pay6 (accOwn m ρ c) (rsAll m ρ c) (xOwn m ρ c) (swAt m ρ c)) Finset.univ : sProp 𝕄)
      ⊢ agPts c c (agAll m ρ) := by
  subst h; exact Entails.of_eq (stored_ag m ρ c fd)

/-! ## All arrived -/

/-- Families' done items, taken apart: what the semaphores handed over, and their counters. -/
theorem done_split (c : Dev nD) (a : Fin 4) :
    bigSep Finset.univ (doneItem m ρ c a) ⊢ iprop((bigSep Finset.univ fun k => xferPay m ρ c a k) ∗ bigSep Finset.univ fun k => semVal (dCell c a k) 0) := by
  rw [show (doneItem m ρ c a) = fun k => iprop(xferPay m ρ c a k ∗ semVal (dCell c a k) 0) from rfl, bigSep_sep']

/-- Fifteen arrivals of the first phase: the landing buffer whole. -/
theorem rs_arrived (c : Dev nD) (O : CellTallies nD τ sig Unit) :
    waitSt m ρ c 1 O 15 ⊢ iprop((∃ W, owes (c : Thread nD τ) O W) ∗ rsWhole c (rsAll m ρ c) ∗ bigSep Finset.univ fun k => semVal (dCell c 1 k) 0) := by
  iintro HS
  ihave HS := (wait_end m ρ c 1 O) $$ HS
  icases HS with ⟨HO, HS⟩
  ihave HS := (done_split m ρ c 1) $$ HS
  icases HS with ⟨Hp, Hz⟩
  isplitl [HO]; · iexact HO
  isplitl [Hp]
  · rw [show rsWhole c (rsAll m ρ c) = _ from rs_slots c (rsAll m ρ c)]; iexact Hp
  iexact Hz

/-- A second landing buffer held whole is the device's own slot and its sources' slots. -/
theorem ag_by_src (c : Dev nD) (f : (cc0_scratch3 : Ref sig .tc).ty.Contents (Elt F)) :
    agWhole c f = iprop(agPts c c f ∗ bigSep Finset.univ fun k => agPts c (src c k) f) := by
  rw [show agWhole c f = _ from ag_slots c f, univ_src c, bigSep_insert (not_src c), bigSep_map]; rfl

/-- Fifteen arrivals of the second phase, with the device's own block: the second landing buffer whole. -/
theorem ag_arrived (c : Dev nD) (O : CellTallies nD τ sig Unit) :
    iprop(waitSt m ρ c 3 O 15 ∗ agPts c c (agAll m ρ))
      ⊢ iprop((∃ W, owes (c : Thread nD τ) O W) ∗ agWhole c (agAll m ρ) ∗ bigSep Finset.univ fun k => semVal (dCell c 3 k) 0) := by
  iintro ⟨HS, Hown⟩
  ihave HS := (wait_end m ρ c 3 O) $$ HS
  icases HS with ⟨HO, HS⟩
  ihave HS := (done_split m ρ c 3) $$ HS
  icases HS with ⟨Hp, Hz⟩
  isplitl [HO]; · iexact HO
  isplitl [Hp Hown]
  · rw [ag_by_src]
    isplitl [Hown]; · iexact Hown
    iexact Hp
  iexact Hz

/-- Part 3 of the body: it signals peers 11 to 14, waits at the barrier, and loads the tokens and the router's weights. -/
theorem part3 (c : Dev nD) (v2 v48 c16 : BitVec 32) {Kt : (Σ' (v65 : FVec F S512x256 .f32) (v75 : FVec F S512x1 .f32), F .f32) → sProp 𝕄} :
    iprop(records m ρ K ∗ sigSt c 11 ∗ cred (tallyAt (barCell c) () 15) ∗ atPos ER (barCell c) 0 ∅ 0 ∗ xPts c (xAt m ρ c) ∗ rwPts c (rwAt m ρ c)
        ∗ (((∃ W, owes (c : Thread nD τ) (owed c 15 0 0) W) ∗ (bigSep Finset.univ fun k => barPay c k) ∗ semVal (barCell c) 0
            ∗ xPts c (xAt m ρ c) ∗ rwPts c (rwAt m ρ c))
          -∗ Kt ⟨k0_pay1 (xAt m ρ c), k0_pay2 (xAt m ρ c) (rwAt m ρ c), Scalar.ofBits .f32 0x3F800000#32⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl) : Sems sig S_) v48 c16) Kt := by
  rw [k0_part3_eq_skeleton]; unfold k0_part3_skel
  simp only [semSignalWord, semWaitWord, Prog.lift, Prog.bind_op, Prog.bind_ret, Prog.pure_eq_ret, wp_deviceId]
  iintro ⟨#HK, HS, Hcb, Hab, Hx, Hrw, Hk⟩
  iapply (step_signal m ρ K c ⟨11, by decide⟩ (dev12 c) rfl) $$ [HS]
  · isplitr; · iexact HK
    iexact HS
  iintro HS
  iapply (step_signal m ρ K c ⟨12, by decide⟩ (dev13 c) rfl) $$ [HS]
  · isplitr; · iexact HK
    iexact HS
  iintro HS
  iapply (step_signal m ρ K c ⟨13, by decide⟩ (dev14 c) rfl) $$ [HS]
  · isplitr; · iexact HK
    iexact HS
  iintro HS
  iapply (step_signal m ρ K c ⟨14, by decide⟩ (dev15 c) rfl) $$ [HS]
  · isplitr; · iexact HK
    iexact HS
  iintro HS
  iapply (step_barrier m ρ K c rfl) $$ [HS Hcb Hab]
  · isplitr; · iexact HK
    isplitl [HS]; · iexact HS
    isplitl [Hcb] <;> iassumption
  iintro ⟨HO, Hbar, Hz⟩
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  rw [read_x c, read_rw, wp_ret]; imodintro
  iapply Hk
  isplitl [HO]; · iexact HO
  isplitl [Hbar]; · iexact Hbar
  isplitl [Hz]; · iexact Hz
  isplitl [Hx] <;> iassumption

/-- Part 4 of the body: it loads the indices and the two experts' weights and stores the partial sum. -/
theorem part4 (c : Dev nD) (w : BitVec 32) (hw : w = selfWord c) {Kt : BitVec 32 → sProp 𝕄} :
    iprop(idxPts c (idxAt m ρ c) ∗ ewPts c (ewAt m ρ c) ∗ (∃ f, accAll c f)
        ∗ ∀ r, ((idxPts c (idxAt m ρ c) ∗ ewPts c (ewAt m ρ c) ∗ accAll c (accAt m ρ c)) -∗ Kt r))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 w (k0_pay1 (xAt m ρ c)) (k0_pay2 (xAt m ρ c) (rwAt m ρ c)) (Scalar.ofBits .f32 0x3F800000#32)) Kt := by
  subst hw
  rw [k0_part4_eq_skeleton]; unfold k0_part4_skel
  simp only [semSignalWord, semWaitWord, Prog.lift, Prog.bind_op, Prog.bind_ret, Prog.pure_eq_ret, wp_deviceId]
  iintro ⟨Hi, He, ⟨%f, Ha⟩, Hk⟩
  iapply (wp_load 𝒱₀ (c : Thread nD τ) none Set.univ (m := idxM) (Finset.subset_univ _)) $$ Hi; iintro Hi
  iapply (wp_load 𝒱₀ (c : Thread nD τ) none Set.univ (m := ewM) (Finset.subset_univ _)) $$ He; iintro He
  iapply (wp_load 𝒱₀ (c : Thread nD τ) none Set.univ (m := ewM) (Finset.subset_univ _)) $$ He; iintro He
  iapply (wp_load 𝒱₀ (c : Thread nD τ) none Set.univ (m := accM) (Finset.subset_univ _)) $$ Ha; iintro Ha
  iapply (wp_store 𝒱₀ (c : Thread nD τ) none Set.univ (m := accM) (r := Rect.unit (s := S16x32x512) ![0, 0, 0] S16x32x512.size inb_S16x32x512_S16x32x512_0_0_0) (Mk := Finset.univ) (Finset.subset_univ _)) $$ Ha; iintro Ha
  rw [write_acc, read_idx, wp_ret]; imodintro
  iapply Hk
  isplitl [Hi]; · iexact Hi
  isplitl [He]; · iexact He
  iexact Ha

/-- Part 16 of the body: it waits for the last arrival of the first phase, adds up the device's block, and stores it in
    the buffer the second phase sends from and in the device's own slot of the second landing buffer. -/
theorem part16 (c : Dev nD) (v2 : BitVec 32) {Kt : (Σ' (v421 : BitVec 32), BitVec 32) → sProp 𝕄} :
    iprop(records m ρ K ∗ waitSt m ρ c 1 (owed c 15 15 0) 14 ∗ accPts c c (accAt m ρ c) ∗ xPts c (xAt m ρ c) ∗ swPts c (swAt m ρ c)
        ∗ (∃ f, chunkAll c f) ∗ (∃ f, agPts c c f)
        ∗ ∀ r, (((∃ W, owes (c : Thread nD τ) (owed c 15 15 0) W) ∗ rsWhole c (rsAll m ρ c) ∗ (bigSep Finset.univ fun k => semVal (dCell c 1 k) 0)
              ∗ accPts c c (accAt m ρ c) ∗ xPts c (xAt m ρ c) ∗ swPts c (swAt m ρ c)
              ∗ chunkAll c (chunkAt m ρ c) ∗ agPts c c (agAll m ρ)) -∗ Kt r))
      ⊢ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part16_eq_skeleton]; unfold k0_part16_skel
  simp only [semSignalWord, semWaitWord, Prog.lift, Prog.bind_op, Prog.bind_ret, Prog.pure_eq_ret, wp_deviceId]
  iintro ⟨#HK, HS, Ha, Hx, Hsw, ⟨%f8, Hch⟩, ⟨%f9, Hag⟩, Hk⟩
  iapply (step_wait m ρ K c 1 (owed c 15 15 0) ⟨14, by decide⟩ (mayWait_rs c ⟨14, by decide⟩) rfl (credit_rs ⟨14, by decide⟩)) $$ [HS]
  · isplitr; · iexact HK
    iexact HS
  iintro HS
  ihave HS := (rs_arrived m ρ c (owed c 15 15 0)) $$ HS
  icases HS with ⟨HO, Hrs, Hz⟩
  unfold accPts agPts
  iapply (wp_load 𝒱₀ (c : Thread nD τ) none Set.univ (m := accM) (own_load_sub c (off2_eq c) _)) $$ Ha; iintro Ha
  iapply (wp_load 𝒱₀ (c : Thread nD τ) none Set.univ (m := rsM) (Finset.subset_univ _)) $$ Hrs; iintro Hrs
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  iapply (wp_load 𝒱₀ (c : Thread nD τ) none Set.univ (m := chunkM) (Finset.subset_univ _)) $$ Hch; iintro Hch
  iapply (wp_store 𝒱₀ (c : Thread nD τ) none Set.univ (m := chunkM) (r := Rect.unit (s := S1x32x512) ![0, 0, 0] S1x32x512.size inb_S1x32x512_S1x32x512_0_0_0) (Mk := Finset.univ) (Finset.subset_univ _)) $$ Hch; iintro Hch
  iapply (wp_load 𝒱₀ (c : Thread nD τ) none Set.univ (m := agM) (own_ag_load_sub c (off2_eq c) _)) $$ Hag; iintro Hag
  iapply (wp_store 𝒱₀ (c : Thread nD τ) none Set.univ (m := agM) (r := Rect.unit (s := S16x32x512) (k0_off2 c) S1x32x512.size (k0_off2_inb c)) (Mk := Finset.univ) (own_ag_store_sub c (off2_eq c) _)) $$ Hag; iintro Hag
  rw [write_chunk, read_accOwn m ρ c (off2_eq c), read_rs, read_xOwn m ρ c (off3_eq c), read_sw, wp_ret]; imodintro
  iapply Hk
  isplitl [HO]; · iexact HO
  isplitl [Hrs]; · iexact Hrs
  isplitl [Hz]; · iexact Hz
  isplitl [Ha]; · iexact Ha
  isplitl [Hx]; · iexact Hx
  isplitl [Hsw]; · iexact Hsw
  isplitl [Hch]; · iexact Hch
  ihave Hag := (stored_own m ρ c f9 (off2_eq c) _) $$ Hag
  unfold agPts; iexact Hag

/-- Part 29 of the body: it waits for the last arrivals of the second phase, stores the result, and waits for the second
    phase's own transfers 0 and 1. -/
theorem part29 (c : Dev nD) (v2 : BitVec 32) {Kt : PUnit → sProp 𝕄} :
    iprop(records m ρ K ∗ waitSt m ρ c 3 0 13 ∗ agPts c c (agAll m ρ) ∗ (∃ f, outPts c f) ∗ bigSep Finset.univ (waitItem c 2)
        ∗ ∀ r, ((waitSt m ρ c 2 0 2 ∗ agWhole c (agAll m ρ) ∗ (bigSep Finset.univ fun k => semVal (dCell c 3 k) 0) ∗ outPts c (outVal m ρ)) -∗ Kt r))
      ⊢ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Kt := by
  rw [k0_part29_eq_skeleton]; unfold k0_part29_skel
  simp only [semSignalWord, semWaitWord, Prog.lift, Prog.bind_op, Prog.bind_ret, Prog.pure_eq_ret, wp_deviceId]
  iintro ⟨#HK, HS, Hown, ⟨%f5, Hout⟩, Hw, Hk⟩
  iapply (step_wait m ρ K c 3 0 ⟨13, by decide⟩ (mayWait_zero c _) rfl (credit_agAt _)) $$ [HS]
  · isplitr; · iexact HK
    iexact HS
  iintro HS
  iapply (step_wait m ρ K c 3 0 ⟨14, by decide⟩ (mayWait_zero c _) rfl (credit_agAt _)) $$ [HS]
  · isplitr; · iexact HK
    iexact HS
  iintro HS
  ihave HS := (ag_arrived m ρ c 0) $$ [HS Hown]
  · isplitl [HS] <;> iassumption
  icases HS with ⟨HO, Hag, Hz⟩
  iapply (wp_load 𝒱₀ (c : Thread nD τ) none Set.univ (m := agM) (Finset.subset_univ _)) $$ Hag; iintro Hag
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) ![0, 0] S512x512.size inb_S512x512_S512x512_0_0) (Mk := Finset.univ) (Finset.subset_univ _)) $$ Hout; iintro Hout
  rw [write_out, read_ag]
  ihave HS := (wait_start m ρ c 2 0) $$ [HO Hw]
  · isplitl [HO] <;> iassumption
  iapply (step_wait m ρ K c 2 0 ⟨0, by decide⟩ (mayWait_zero c _) rfl rfl) $$ [HS]
  · isplitr; · iexact HK
    iexact HS
  iintro HS
  iapply (step_wait m ρ K c 2 0 ⟨1, by decide⟩ (mayWait_zero c _) rfl rfl) $$ [HS]
  · isplitr; · iexact HK
    iexact HS
  iintro HS
  rw [wp_ret]; imodintro
  iapply Hk
  isplitl [HS]; · iexact HS
  isplitl [Hag]; · iexact Hag
  isplitl [Hz]; · iexact Hz
  iexact Hout

end Cert.KernelIdeal.Moe

end
-- ==== Proof.Body.lean ====
/-
# From one phase to the next, and the whole body

What a device holds when the body starts is dealt out to the phases: the slots of its landing buffers go to the peers
with the signals, the barrier brings the peers' slots, the partial sum is cut into the blocks the first phase sends, the
finished block into the shares the second phase reads at. At the end every buffer is whole again and every semaphore is
back at zero.
-/
module

public import proofs.«01_k».proof.Proof.Compute

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CIx → ℕ)

/-! ## What a device starts from -/

/-- The device's position on every semaphore of family `a`: nothing taken yet. -/
def ats (c : Dev nD) (a : Fin 4) : sProp 𝕄 := bigSep Finset.univ fun k => atPos ER (dCell c a k) 0 ∅ 0
/-- The rights to pay the device's own semaphores of family `a`; -/
def ownTok (c : Dev nD) (a : Fin 4) : sProp 𝕄 := bigSep Finset.univ fun k => dutyTok ER (dCell c a k) 0 0
/-- its peers', the `k`-th on the `k`-th peer; -/
def peerTok (c : Dev nD) (a : Fin 4) : sProp 𝕄 := bigSep Finset.univ fun k => dutyTok ER (dCell (peer c k) a k) 0 0
/-- and the peers' barriers. -/
def barTok (c : Dev nD) : sProp 𝕄 := bigSep Finset.univ fun k => dutyTok ER (barCell (peer c k)) 0 k

/-- The protocol's state the device starts from, under the names `K` of the semaphores' invariants. -/
def ghost (c : Dev nD) : sProp 𝕄 :=
  iprop(records m ρ K ∗ atPos ER (barCell c) 0 ∅ 0 ∗ barTok c ∗ ats c 0 ∗ ats c 1 ∗ ats c 2 ∗ ats c 3
    ∗ ownTok c 0 ∗ peerTok c 1 ∗ ownTok c 2 ∗ peerTok c 3)
/-- The credits it starts from: its barrier's, and both landing families'. -/
def creds (c : Dev nD) : sProp 𝕄 := iprop(cred (tallyAt (barCell c) () 15) ∗ credAll c 1 ∗ credAll c 3)
def start (c : Dev nD) : sProp 𝕄 := iprop((∃ K, ghost m ρ K c) ∗ creds c)
/-- The four scratch buffers, whole, at any contents. -/
def scratch (c : Dev nD) : sProp 𝕄 := iprop((∃ f, accAll c f) ∗ (∃ f, rsWhole c f) ∗ (∃ f, chunkAll c f) ∗ ∃ f, agWhole c f)
/-- The counters of a family of semaphores at zero. -/
def zeros (c : Dev nD) (a : Fin 4) : sProp 𝕄 := bigSep Finset.univ fun k => semVal (dCell c a k) 0

def Φ₀ (c : Dev nD) : sProp 𝕄 := iprop(start m ρ c ∗ scratch c)
/-- What is left after the body: the scratch buffers, and every counter at zero. -/
def Φ₁ (c : Dev nD) : sProp 𝕄 := iprop(scratch c ∗ semVal (barCell c) 0 ∗ zeros c 0 ∗ zeros c 1 ∗ zeros c 2 ∗ zeros c 3)

/-! ## Dealing out -/

theorem wait_items (c : Dev nD) (a : Fin 4) : iprop(credAll c a ∗ ats c a) ⊢ (bigSep Finset.univ (waitItem c a) : sProp 𝕄) := by
  unfold credAll ats
  rw [← bigSep_sep']
  exact bigSep_mono fun k _ => by unfold waitItem; exact BI.Entails.refl _

/-- A partial sum held whole is the device's own slot and its peers' slots. -/
theorem acc_by_peer (c : Dev nD) (f : (cc0_scratch0 : Ref sig .tc).ty.Contents (Elt F)) :
    accAll c f = iprop(accPts c c f ∗ bigSep Finset.univ fun k => accPts c (peer c k) f) := by
  rw [show accAll c f = _ from acc_slots c f, univ_peer c, bigSep_insert (not_peer c), bigSep_map]; rfl
/-- A second landing buffer held whole is the device's own slot and its peers' slots. -/
theorem ag_by_peer (c : Dev nD) (f : (cc0_scratch3 : Ref sig .tc).ty.Contents (Elt F)) :
    agWhole c f = iprop(agPts c c f ∗ bigSep Finset.univ fun k => agPts c (peer c k) f) := by
  rw [show agWhole c f = _ from ag_slots c f, univ_peer c, bigSep_insert (not_peer c), bigSep_map]; rfl
/-- A first landing buffer held whole is its slots, counted backwards. -/
theorem rs_by_rev (c : Dev nD) (f : (cc0_scratch1 : Ref sig .tc).ty.Contents (Elt F)) :
    rsWhole c f = bigSep Finset.univ fun k : Fin 15 => rsPts c k.rev f := by
  rw [show rsWhole c f = _ from rs_slots c f, bigSep_univ_equiv Fin.revPerm]; rfl
theorem univ_shares : (Finset.univ : Finset (Fin (2 ^ 4))) = insert 15 (Finset.univ.map ⟨shareNo, fun a b h => Fin.ext (congrArg (fun i : Fin (2 ^ 4) => i.val) h)⟩) := by
  decide +kernel
/-- A finished block held whole is the fifteen shares the transfers read at, and one more. -/
theorem chunk_by_share (c : Dev nD) (f : (cc0_scratch2 : Ref sig .tc).ty.Contents (Elt F)) :
    chunkAll c f = iprop(chunkPts c 15 f ∗ bigSep Finset.univ fun k => chunkPts c (shareNo k) f) := by
  rw [show chunkAll c f = _ from chunk_shares c f, univ_shares, bigSep_insert (by decide +kernel), bigSep_map]; rfl

theorem some_f {I : Type} {T : Type} (s : Finset I) (P : I → T → sProp 𝕄) (f : T) :
    bigSep s (fun k => P k f) ⊢ bigSep s (fun k => iprop(∃ f, P k f)) :=
  bigSep_mono fun k _ => show iprop(P k f) ⊢ iprop(∃ f, P k f) from by iintro H; iexists f; iexact H

/-- Before the signals: the device hands each peer its slots, and keeps its own slot of the second landing buffer. -/
theorem start_sig (c : Dev nD) :
    iprop((∃ W, owes (c : Thread nD τ) (owed c 0 0 0) W) ∗ barTok c ∗ (∃ f, rsWhole c f) ∗ (∃ f, agWhole c f))
      ⊢ (iprop(sigSt c 0 ∗ ∃ f, agPts c c f) : sProp 𝕄) := by
  unfold sigSt barTok
  rw [all_range, show (sigItem c : Fin 15 → sProp 𝕄) = fun k => iprop(dutyTok ER (barCell (peer c k)) 0 k ∗ (∃ f, rsPts c k.rev f) ∗ (∃ f, agPts c (peer c k) f)) from
    funext fun k => by unfold sigItem barPay; rw [src_peer], bigSep_sep', bigSep_sep']
  iintro ⟨HO, Ht, ⟨%f7, H7⟩, ⟨%f9, H9⟩⟩
  ihave H7 := (Entails.of_eq (rs_by_rev c f7)) $$ H7
  ihave H7 := (some_f Finset.univ (fun k f => rsPts c (Fin.rev k) f) f7) $$ H7
  ihave H9 := (Entails.of_eq (ag_by_peer c f9)) $$ H9
  icases H9 with ⟨Hown, H9⟩
  ihave H9 := (some_f Finset.univ (fun k f => agPts c (peer c k) f) f9) $$ H9
  isplitr [Hown]
  · isplitl [HO]; · iexact HO
    isplitl [Ht]; · iexact Ht
    isplitl [H7]; · iexact H7
    iexact H9
  iexists f9; iexact Hown

/-- What the barrier brings: the slots on the peers that this device's transfers will write. -/
theorem bar_slots (c : Dev nD) :
    (bigSep Finset.univ fun k => barPay c k)
      ⊢ (iprop((bigSep Finset.univ fun k => iprop(∃ f, rsPts (peer c k) k f)) ∗ bigSep Finset.univ fun k => iprop(∃ f, agPts (peer c k) c f)) : sProp 𝕄) := by
  rw [bigSep_univ_equiv Fin.revPerm, ← bigSep_sep']
  exact bigSep_mono fun k _ => by
    show barPay c k.rev ⊢ _
    unfold barPay; rw [src_rev, Fin.rev_rev]

/-- Before the first phase's transfers. -/
theorem start_rs (c : Dev nD) :
    iprop((∃ W, owes (c : Thread nD τ) (owed c 15 0 0) W) ∗ ownTok c 0 ∗ peerTok c 1 ∗ (bigSep Finset.univ fun k => accPts c (peer c k) (accAt m ρ c))
        ∗ bigSep Finset.univ fun k => iprop(∃ f, rsPts (peer c k) k f)) ⊢ rsSt m ρ c 0 := by
  unfold rsSt ownTok peerTok
  rw [all_range, none_done, show (rsItem m ρ c : Fin 15 → sProp 𝕄) = fun k => iprop(dutyTok ER (dCell c 0 k) 0 0 ∗ dutyTok ER (dCell (peer c k) 1 k) 0 0
    ∗ accPts c (peer c k) (accAt m ρ c) ∗ ∃ f, rsPts (peer c k) k f) from rfl, bigSep_sep', bigSep_sep', bigSep_sep']
  iintro ⟨HO, H0, H1, Ha, Hr⟩
  isplitl [HO]; · iexact HO
  isplitl [H0 H1 Ha Hr]
  · isplitl [H0]; · iexact H0
    isplitl [H1]; · iexact H1
    isplitl [Ha] <;> iassumption
  iempintro
/-- Before the second phase's transfers. -/
theorem start_ag (c : Dev nD) :
    iprop((∃ W, owes (c : Thread nD τ) (owed c 15 15 0) W) ∗ ownTok c 2 ∗ peerTok c 3 ∗ (bigSep Finset.univ fun k => chunkPts c (shareNo k) (chunkAt m ρ c))
        ∗ bigSep Finset.univ fun k => iprop(∃ f, agPts (peer c k) c f)) ⊢ agSt m ρ c 0 := by
  unfold agSt ownTok peerTok
  rw [all_range, none_done, show (agItem m ρ c : Fin 15 → sProp 𝕄) = fun k => iprop(dutyTok ER (dCell c 2 k) 0 0 ∗ dutyTok ER (dCell (peer c k) 3 k) 0 0
    ∗ chunkPts c (shareNo k) (chunkAt m ρ c) ∗ ∃ f, agPts (peer c k) c f) from rfl, bigSep_sep', bigSep_sep', bigSep_sep']
  iintro ⟨HO, H0, H1, Ha, Hr⟩
  isplitl [HO]; · iexact HO
  isplitl [H0 H1 Ha Hr]
  · isplitl [H0]; · iexact H0
    isplitl [H1]; · iexact H1
    isplitl [Ha] <;> iassumption
  iempintro

/-! ## The body -/

/-- What the body starts from, besides its six staged windows and what it owes; -/
def bodyPre (c : Dev nD) : sProp 𝕄 :=
  iprop(ghost m ρ K c ∗ creds c ∗ scratch c ∗ (∃ W, owes (c : Thread nD τ) (owed c 0 0 0) W)
    ∗ xPts c (xAt m ρ c) ∗ rwPts c (rwAt m ρ c) ∗ idxPts c (idxAt m ρ c) ∗ ewPts c (ewAt m ρ c) ∗ swPts c (swAt m ρ c) ∗ ∃ f, outPts c f)
/-- and what it ends with: nothing owed, the result stored. -/
def bodyPost (c : Dev nD) : sProp 𝕄 :=
  iprop(Φ₁ c ∗ (∃ W, owes (c : Thread nD τ) 0 W)
    ∗ xPts c (xAt m ρ c) ∗ rwPts c (rwAt m ρ c) ∗ idxPts c (idxAt m ρ c) ∗ ewPts c (ewAt m ρ c) ∗ swPts c (swAt m ρ c) ∗ outPts c (outVal m ρ))

/-- The body runs from `bodyPre` to `bodyPost`: its thirty-one parts one after another. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  rw [cc0_body_eq_skeleton]; unfold cc0_body_skel
  unfold bodyPre ghost creds scratch
  iintro ⟨⟨⟨#HK, Hab, Hbt, Hat0, Hat1, Hat2, Hat3, Ht0, Ht1, Ht2, Ht3⟩, ⟨Hcb, Hc1, Hc3⟩, ⟨Hacc, Hrs, Hch, Hag⟩, HO, Hx, Hrw, Hidx, Hew, Hsw, Hout⟩, Hk⟩
  ihave HS := (start_sig (F := F) c) $$ [HO Hbt Hrs Hag]
  · isplitl [HO]; · iexact HO
    isplitl [Hbt]; · iexact Hbt
    isplitl [Hrs] <;> iassumption
  icases HS with ⟨HS, Hagown⟩
  rw [wp_bind]
  iapply (part1 m ρ K c)
  isplitr; · iexact HK
  isplitl [HS]; · iexact HS
  iintro %x %y HS
  rw [wp_bind]
  iapply (part2 m ρ K c _ _ _)
  isplitr; · iexact HK
  isplitl [HS]; · iexact HS
  iintro %r HS
  rw [wp_bind]
  iapply (part3 m ρ K c _ _ _)
  isplitr; · iexact HK
  isplitl [HS]; · iexact HS
  isplitl [Hcb]; · iexact Hcb
  isplitl [Hab]; · iexact Hab
  isplitl [Hx]; · iexact Hx
  isplitl [Hrw]; · iexact Hrw
  iintro  ⟨HO, Hbar, Hzb, Hx, Hrw⟩
  rw [wp_bind]
  iapply (part4 m ρ c _ rfl)
  isplitl [Hidx]; · iexact Hidx
  isplitl [Hew]; · iexact Hew
  isplitl [Hacc]; · iexact Hacc
  iintro %r ⟨Hidx, Hew, Hacc⟩
  ihave Hb := (bar_slots (F := F) c) $$ Hbar
  icases Hb with ⟨Hrsp, Hagp⟩
  ihave Hacc := (Entails.of_eq (acc_by_peer c (accAt m ρ c))) $$ Hacc
  icases Hacc with ⟨Haccown, Hacc⟩
  ihave HS := (start_rs m ρ c) $$ [HO Ht0 Ht1 Hacc Hrsp]
  · isplitl [HO]; · iexact HO
    isplitl [Ht0]; · iexact Ht0
    isplitl [Ht1]; · iexact Ht1
    isplitl [Hacc] <;> iassumption
  rw [wp_bind]
  iapply (part5 m ρ K c _ _)
  isplitr; · iexact HK
  isplitl [HS]; · iexact HS
  iintro %r HS
  rw [wp_bind]
  iapply (part6 m ρ K c _)
  isplitr; · iexact HK
  isplitl [HS]; · iexact HS
  iintro %r HS
  rw [wp_bind]
  iapply (part7 m ρ K c _)
  isplitr; · iexact HK
  isplitl [HS]; · iexact HS
  iintro %r HS
  rw [wp_bind]
  iapply (part8 m ρ K c _ _ _)
  isplitr; · iexact HK
  isplitl [HS]; · iexact HS
  iintro %r HS
  rw [wp_bind]
  iapply (part9 m ρ K c _ _ _)
  isplitr; · iexact HK
  isplitl [HS]; · iexact HS
  iintro %r HS
  ihave Hw := (wait_items (F := F) c 1) $$ [Hc1 Hat1]
  · isplitl [Hc1] <;> iassumption
  rw [wp_bind]
  iapply (part10 m ρ K c _)
  isplitr; · iexact HK
  isplitl [HS]; · iexact HS
  isplitl [Hw]; · iexact Hw
  iintro %r ⟨HS, Hc0⟩
  rw [wp_bind]
  iapply (part11 m ρ K c _)
  isplitr; · iexact HK
  isplitl [HS]; · iexact HS
  iintro %r HS
  rw [wp_bind]
  iapply (part12 m ρ K c _ _ _)
  isplitr; · iexact HK
  isplitl [HS]; · iexact HS
  iintro %r HS
  rw [wp_bind]
  iapply (part13 m ρ K c _)
  isplitr; · iexact HK
  isplitl [HS]; · iexact HS
  iintro %r HS
  rw [wp_bind]
  iapply (part14 m ρ K c _ _)
  isplitr; · iexact HK
  isplitl [HS]; · iexact HS
  iintro %r HS
  rw [wp_bind]
  iapply (part15 m ρ K c _)
  isplitr; · iexact HK
  isplitl [HS]; · iexact HS
  iintro %r HS
  rw [wp_bind]
  iapply (part16 m ρ K c _)
  isplitr; · iexact HK
  isplitl [HS]; · iexact HS
  isplitl [Haccown]; · iexact Haccown
  isplitl [Hx]; · iexact Hx
  isplitl [Hsw]; · iexact Hsw
  isplitl [Hch]; · iexact Hch
  isplitl [Hagown]; · iexact Hagown
  iintro %r ⟨HO, Hrs, Hz1, Haccown, Hx, Hsw, Hch, Hagown⟩
  ihave Hch := (Entails.of_eq (chunk_by_share c (chunkAt m ρ c))) $$ Hch
  icases Hch with ⟨Hchown, Hch⟩
  ihave HS := (start_ag m ρ c) $$ [HO Ht2 Ht3 Hch Hagp]
  · isplitl [HO]; · iexact HO
    isplitl [Ht2]; · iexact Ht2
    isplitl [Ht3]; · iexact Ht3
    isplitl [Hch] <;> iassumption
  rw [wp_bind]
  iapply (part17 m ρ K c _ _ _)
  isplitr; · iexact HK
  isplitl [HS]; · iexact HS
  iintro %r HS
  rw [wp_bind]
  iapply (part18 m ρ K c _)
  isplitr; · iexact HK
  isplitl [HS]; · iexact HS
  iintro %r HS
  rw [wp_bind]
  iapply (part19 m ρ K c _ _)
  isplitr; · iexact HK
  isplitl [HS]; · iexact HS
  iintro %r HS
  rw [wp_bind]
  iapply (part20 m ρ K c _ _ _)
  isplitr; · iexact HK
  isplitl [HS]; · iexact HS
  iintro %r HS
  ihave Hw := (wait_items (F := F) c 0) $$ [Hc0 Hat0]
  · isplitl [Hc0] <;> iassumption
  rw [wp_bind]
  iapply (part21 m ρ K c _)
  isplitr; · iexact HK
  isplitl [HS]; · iexact HS
  isplitl [Hw]; · iexact Hw
  iintro %r ⟨HS, Hc2⟩
  rw [wp_bind]
  iapply (part22 m ρ K c)
  isplitr; · iexact HK
  isplitl [HS]; · iexact HS
  iintro %r HS
  rw [wp_bind]
  iapply (part23 m ρ K c)
  isplitr; · iexact HK
  isplitl [HS]; · iexact HS
  iintro %r HS
  rw [wp_bind]
  iapply (part24 m ρ K c _)
  isplitr; · iexact HK
  isplitl [HS]; · iexact HS
  iintro %r HS
  ihave HS := (wait_end m ρ c 0 0) $$ HS
  icases HS with ⟨HO, HS⟩
  ihave HS := (done_split m ρ c 0) $$ HS
  icases HS with ⟨Hacc, Hz0⟩
  ihave Hacc := (Entails.of_eq (acc_by_peer c (accAt m ρ c)).symm) $$ [Haccown Hacc]
  · isplitl [Haccown]; · iexact Haccown
    iexact Hacc
  ihave Hw := (wait_items (F := F) c 3) $$ [Hc3 Hat3]
  · isplitl [Hc3] <;> iassumption
  ihave HS := (wait_start m ρ c 3 0) $$ [HO Hw]
  · isplitl [HO] <;> iassumption
  rw [wp_bind]
  iapply (part25 m ρ K c _ _)
  isplitr; · iexact HK
  isplitl [HS]; · iexact HS
  iintro %r HS
  rw [wp_bind]
  iapply (part26 m ρ K c _)
  isplitr; · iexact HK
  isplitl [HS]; · iexact HS
  iintro %r HS
  rw [wp_bind]
  iapply (part27 m ρ K c _ _)
  isplitr; · iexact HK
  isplitl [HS]; · iexact HS
  iintro %r HS
  rw [wp_bind]
  iapply (part28 m ρ K c _ _)
  isplitr; · iexact HK
  isplitl [HS]; · iexact HS
  iintro %r HS
  ihave Hw := (wait_items (F := F) c 2) $$ [Hc2 Hat2]
  · isplitl [Hc2] <;> iassumption
  rw [wp_bind]
  iapply (part29 m ρ K c _)
  isplitr; · iexact HK
  isplitl [HS]; · iexact HS
  isplitl [Hagown]; · iexact Hagown
  isplitl [Hout]; · iexact Hout
  isplitl [Hw]; · iexact Hw
  iintro %r ⟨HS, Hag, Hz3, Hout⟩
  rw [wp_bind]
  iapply (part30 m ρ K c)
  isplitr; · iexact HK
  isplitl [HS]; · iexact HS
  iintro %r HS
  rw [wp_bind]
  iapply (part31 m ρ K c)
  isplitr; · iexact HK
  isplitl [HS]; · iexact HS
  iintro %r HS
  simp only [Prog.lift, Prog.bind_op, Prog.bind_ret, Prog.pure_eq_ret]
  iapply (step_wait m ρ K c 2 0 ⟨14, by decide⟩ (mayWait_zero c _) rfl rfl) $$ [HS]
  · isplitr; · iexact HK
    iexact HS
  iintro HS
  ihave HS := (wait_end m ρ c 2 0) $$ HS
  icases HS with ⟨HO, HS⟩
  ihave HS := (done_split m ρ c 2) $$ HS
  icases HS with ⟨Hch, Hz2⟩
  ihave Hch := (Entails.of_eq (chunk_by_share c (chunkAt m ρ c)).symm) $$ [Hchown Hch]
  · isplitl [Hchown]; · iexact Hchown
    iexact Hch
  rw [wp_ret]; imodintro
  iapply Hk
  unfold bodyPost Φ₁ scratch zeros
  isplitl [Hacc Hrs Hch Hag Hzb Hz0 Hz1 Hz2 Hz3]
  · isplitl [Hacc Hrs Hch Hag]
    · isplitl [Hacc]; · iexists _; iexact Hacc
      isplitl [Hrs]; · iexists _; iexact Hrs
      isplitl [Hch]; · iexists _; iexact Hch
      iexists _; iexact Hag
    isplitl [Hzb]; · iexact Hzb
    isplitl [Hz0]; · iexact Hz0
    isplitl [Hz1]; · iexact Hz1
    isplitl [Hz2] <;> iassumption
  isplitl [HO]; · iexact HO
  isplitl [Hx]; · iexact Hx
  isplitl [Hrw]; · iexact Hrw
  isplitl [Hidx]; · iexact Hidx
  isplitl [Hew]; · iexact Hew
  isplitl [Hsw] <;> iassumption

end Cert.KernelIdeal.Moe

end
-- ==== Proof.Obligation.lean ====
/-
# The body as the pipeline asks for it

The pipeline stages five arguments, runs the body once and writes the result back. Here are its proof data (what each
staging buffer holds before and after the body) and the body's obligation, from the body's lemma.
-/
module

public import proofs.«01_k».proof.Proof.Body

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device owes at launch: its fifteen signals and its thirty transfers. -/
abbrev O₀ (c : Dev nD) : CellTallies nD τ sig Unit := owed c 0 0 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => rwAt m ρ c
    | ⟨2, _⟩ => idxAt m ρ c
    | ⟨3, _⟩ => ewAt m ρ c
    | ⟨4, _⟩ => swAt m ρ c
    | ⟨5, _⟩ => outVal m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem before_0 (c : Dev nD) (d) : (dats m ρ 0 c).before (0 : Fin 6) t₀ d = xAt m ρ c := by
  unfold Dat.before; rw [if_pos (show (cfg0.win (0 : Fin 6)).fetch t₀ = true from rfl)]; rfl
theorem before_1 (c : Dev nD) (d) : (dats m ρ 0 c).before (1 : Fin 6) t₀ d = rwAt m ρ c := by
  unfold Dat.before; rw [if_pos (show (cfg0.win (1 : Fin 6)).fetch t₀ = true from rfl)]; rfl
theorem before_2 (c : Dev nD) (d) : (dats m ρ 0 c).before (2 : Fin 6) t₀ d = idxAt m ρ c := by
  unfold Dat.before; rw [if_pos (show (cfg0.win (2 : Fin 6)).fetch t₀ = true from rfl)]; rfl
theorem before_3 (c : Dev nD) (d) : (dats m ρ 0 c).before (3 : Fin 6) t₀ d = ewAt m ρ c := by
  unfold Dat.before; rw [if_pos (show (cfg0.win (3 : Fin 6)).fetch t₀ = true from rfl)]; rfl
theorem before_4 (c : Dev nD) (d) : (dats m ρ 0 c).before (4 : Fin 6) t₀ d = swAt m ρ c := by
  unfold Dat.before; rw [if_pos (show (cfg0.win (4 : Fin 6)).fetch t₀ = true from rfl)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_elim (c : Dev nD) (b : Ref sig .tc) (X : b.ty.Contents (Elt F)) : (stg c b X : sProp 𝕄) ⊢ (((c : Thread nD τ).loc b) ↦{fullShare} X) := by
  iintro ⟨%f, %h, H⟩; subst h; iexact H
theorem stg_intro (c : Dev nD) (b : Ref sig .tc) (X : b.ty.Contents (Elt F)) : (((c : Thread nD τ).loc b) ↦{fullShare} X) ⊢ (stg c b X : sProp 𝕄) := by
  iintro H; iexists X; isplitr; · (ipureintro; rfl)
  iexact H
theorem stg_some (c : Dev nD) (b : Ref sig .tc) {D : Type} (X : D → b.ty.Contents (Elt F)) : (iprop(∃ d, stg c b (X d)) : sProp 𝕄) ⊢ iprop(∃ f, (((c : Thread nD τ).loc b) ↦{fullShare} f)) := by
  iintro ⟨%d, %f, %h, H⟩; iexists f; iexact H

def bodyPre' (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost' (c : Dev nD) : sProp 𝕄 :=
  iprop(Φ₁ c ∗ (dats m ρ 0 c).owesAt () t₀.succ
    ∗ stg c cc0_stg0_0 (xAt m ρ c)
    ∗ stg c cc0_stg1_0 (rwAt m ρ c)
    ∗ stg c cc0_stg2_0 (idxAt m ρ c)
    ∗ stg c cc0_stg3_0 (ewAt m ρ c)
    ∗ stg c cc0_stg4_0 (swAt m ρ c)
    ∗ stg c cc0_stg5_0 (outVal m ρ))

theorem pre_intro (c : Dev nD) : bodyPre' m ρ c ⊢ iprop(∃ K, bodyPre m ρ K c) := by
  unfold bodyPre' Φ₀ start
  simp only [before_0]
  simp only [before_1]
  simp only [before_2]
  simp only [before_3]
  simp only [before_4]
  unfold Dat.owesAt Pipeline.owesWithin
  iintro ⟨⟨⟨⟨%K, Hg⟩, Hc⟩, Hscr⟩, ⟨%W, -, HO⟩, ⟨%d0, H0⟩, ⟨%d1, H1⟩, ⟨%d2, H2⟩, ⟨%d3, H3⟩, ⟨%d4, H4⟩, H5⟩
  iexists K
  unfold bodyPre
  isplitl [Hg]; · iexact Hg
  isplitl [Hc]; · iexact Hc
  isplitl [Hscr]; · iexact Hscr
  isplitl [HO]; · iexists W; iexact HO
  isplitl [H0]; · iapply (stg_elim c cc0_stg0_0 (xAt m ρ c)); iexact H0
  isplitl [H1]; · iapply (stg_elim c cc0_stg1_0 (rwAt m ρ c)); iexact H1
  isplitl [H2]; · iapply (stg_elim c cc0_stg2_0 (idxAt m ρ c)); iexact H2
  isplitl [H3]; · iapply (stg_elim c cc0_stg3_0 (ewAt m ρ c)); iexact H3
  isplitl [H4]; · iapply (stg_elim c cc0_stg4_0 (swAt m ρ c)); iexact H4
  iapply (stg_some c cc0_stg5_0 fun d => (dats m ρ 0 c).before (5 : Fin 6) t₀ d); iexact H5

theorem post_intro (c : Dev nD) : bodyPost m ρ c ⊢ bodyPost' m ρ c := by
  unfold bodyPost bodyPost' Dat.owesAt Pipeline.owesWithin
  rw [show (dats m ρ 0 c).owed t₀.succ = 0 from rfl]
  iintro ⟨HΦ, ⟨%W, HO⟩, H0, H1, H2, H3, H4, H5⟩
  isplitl [HΦ]; · iexact HΦ
  isplitl [HO]
  · iexists W
    isplitr; · ipureintro; exact fun _ _ => Or.inl trivial
    iexact HO
  isplitl [H0]; · iapply (stg_intro c cc0_stg0_0 (xAt m ρ c)); iexact H0
  isplitl [H1]; · iapply (stg_intro c cc0_stg1_0 (rwAt m ρ c)); iexact H1
  isplitl [H2]; · iapply (stg_intro c cc0_stg2_0 (idxAt m ρ c)); iexact H2
  isplitl [H3]; · iapply (stg_intro c cc0_stg3_0 (ewAt m ρ c)); iexact H3
  isplitl [H4]; · iapply (stg_intro c cc0_stg4_0 (swAt m ρ c)); iexact H4
  iapply (stg_intro c cc0_stg5_0 (outVal m ρ)); iexact H5

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost' m ρ c)
  iintro H
  ihave H := (pre_intro m ρ c) $$ H
  icases H with ⟨%K, H⟩
  iapply (sound_body m ρ K c fun _ => bodyPost' m ρ c)
  isplitl [H]; · iexact H
  iintro H
  iapply (post_intro m ρ c); iexact H

end Cert.KernelIdeal.Moe

end
-- ==== Proof.Launch.lean ====
/-
# The launch

What the launch deals each device (positions, duty tokens, credits), the exchange of the duty tokens between the devices,
and the run: every execution ends, with the result array holding the kernel's result, the arguments unchanged and every
semaphore counter at zero.
-/
module

public import Idealize.ShloMosaic.Lib.Pipeline.CollectiveSegs
public import proofs.«01_k».proof.Proof.Obligation

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, cells and duty tokens -/

/-- The sixty transfer semaphores, by family and number. -/
abbrev osem (ak : Fin 4 × Fin 15) : SemLoc sig := .dma (dsem ak.1 ak.2)
theorem ownSemFacts : Pipeline.OwnSemFacts cfg0.spec osem where
  isScoped := by decide +kernel
  inj := fun x y h => dsem_inj (SemLoc.dma.inj h)
  disj := by decide +kernel

theorem share_eq (c : Dev nD) (w : Fin cfg0.W) : (dats m ρ 0 c).share w = fullShare := by unfold Dat.share; split <;> rfl

theorem csem_inj : Function.Injective csem := by
  rintro (⟨⟩ | x) (⟨⟩ | y) h
  · rfl
  · exact absurd h (by simp [csem])
  · exact absurd h (by simp [csem])
  · exact congrArg Sum.inr (dsem_inj (SemLoc.dma.inj h))
theorem kcell_injective : Function.Injective (kcell : Dev nD × CIx → GSem nD τ sig) := by
  rintro ⟨c, k⟩ ⟨c', k'⟩ h
  have h1 : c = c' := congrArg (fun g : GSem nD τ sig => g.1.1) h
  subst h1
  exact congrArg (Prod.mk c) (csem_inj (congrArg (fun g : GSem nD τ sig => g.2) h))
def cells : Finset (GSem nD τ sig) := Finset.univ.map ⟨kcell, kcell_injective⟩

/-- A device's own duty tokens as minted: the barrier's fifteen, one of each transfer semaphore. -/
abbrev TIx : Type := Fin 15 ⊕ (Fin 4 × Fin 15)
abbrev tokOf (cj : Dev nD × TIx) : GSem nD τ sig × ℕ × Fin 15 := match cj.2 with
  | .inl k => (barCell cj.1, 0, k)
  | .inr ak => (dCell cj.1 ak.1 ak.2, 0, 0)
theorem tokOf_injective : Function.Injective (tokOf : Dev nD × TIx → GSem nD τ sig × ℕ × Fin 15) := by
  rintro ⟨c, j⟩ ⟨c', j'⟩ h
  have h1 : c = c' := by
    have := congrArg (fun x : GSem nD τ sig × ℕ × Fin 15 => x.1.1.1) h
    rcases j with j | j <;> rcases j' with j' | j' <;> exact this
  subst h1
  have h2 := congrArg (fun x : GSem nD τ sig × ℕ × Fin 15 => x.1.2) h
  have h3 := congrArg (fun x : GSem nD τ sig × ℕ × Fin 15 => x.2.2) h
  rcases j with j | j <;> rcases j' with j' | j'
  · have h3 : j = j' := h3
    rw [h3]
  · cases h2
  · cases h2
  · rw [show j = j' from dsem_inj (SemLoc.dma.inj h2)]
def tokens : Finset (GSem nD τ sig × ℕ × Fin 15) := Finset.univ.map ⟨tokOf, tokOf_injective⟩

def u₀ : UU :=
  (initOf (Pipeline.cells cfgs cellOf_inj) (Pipeline.launchToks cfgs cellOf_inj), initOf cells tokens)

/-- The duty tokens of device `c`'s own barrier. -/
def barOwn (c : Dev nD) : sProp 𝕄 := bigSep Finset.univ fun k => dutyTok ER (barCell c) 0 k
/-- The duty tokens of device `c`'s own semaphores. -/
def toks (c : Dev nD) : sProp 𝕄 := iprop(barOwn c ∗ ownTok c 0 ∗ ownTok c 1 ∗ ownTok c 2 ∗ ownTok c 3)

theorem bigSep_fin4 {M : Type} [URA M] (Φ : Fin 4 → sProp M) : bigSep Finset.univ Φ = iprop(Φ 0 ∗ Φ 1 ∗ Φ 2 ∗ Φ 3) := bigSep_univ_eq_bigSepL [0, 1, 2, 3] (by decide) (by decide) Φ

/-- A separating product over the sixty transfer semaphores, family by family. -/
theorem by_family {M : Type} [URA M] (Φ : Fin 4 × Fin 15 → sProp M) :
    bigSep Finset.univ Φ = iprop((bigSep Finset.univ fun k => Φ (0, k)) ∗ (bigSep Finset.univ fun k => Φ (1, k)) ∗ (bigSep Finset.univ fun k => Φ (2, k)) ∗ bigSep Finset.univ fun k => Φ (3, k)) := by
  rw [bigSep_univ_prod, bigSep_fin4]
/-- And over all of a device's semaphores: the barrier, then the families. -/
theorem by_sem {M : Type} [URA M] (Φ : CIx → sProp M) :
    bigSep Finset.univ Φ = iprop(Φ (.inl ()) ∗ (bigSep Finset.univ fun k => Φ (.inr (0, k))) ∗ (bigSep Finset.univ fun k => Φ (.inr (1, k))) ∗ (bigSep Finset.univ fun k => Φ (.inr (2, k))) ∗ bigSep Finset.univ fun k => Φ (.inr (3, k))) := by
  rw [bigSep_univ_sum, by_family, show (Finset.univ : Finset Unit) = {()} from rfl, bigSep_singleton]; rfl
theorem by_tok {M : Type} [URA M] (Φ : TIx → sProp M) :
    bigSep Finset.univ Φ = iprop((bigSep Finset.univ fun k => Φ (.inl k)) ∗ (bigSep Finset.univ fun k => Φ (.inr (0, k))) ∗ (bigSep Finset.univ fun k => Φ (.inr (1, k))) ∗ (bigSep Finset.univ fun k => Φ (.inr (2, k))) ∗ bigSep Finset.univ fun k => Φ (.inr (3, k))) := by
  rw [bigSep_univ_sum, by_family]; rfl

/-- What the launch deals device `c`: its semaphores' states, its positions, its own duty tokens. -/
def G (c : Dev nD) : sProp 𝕄 :=
  iprop((bigSep Finset.univ fun k : CIx => roundState ER (Rd m ρ) (kcell (c, k)) 0)
    ∗ (bigSep Finset.univ fun k : CIx => iprop(atPos ER (kcell (c, k)) 0 ∅ 0 ∗ reached ER (kcell (c, k)) 0)) ∗ toks c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : CIx => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [by_tok]; rfl
  iintro HX
  imod (Rounds.fund ER (Rd m ρ) cells tokens) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0; rw [by_family]; rfl
theorem unscopedSems0_eq (c : Dev nD) : (unscopedSems0 c : sProp 𝕄) = semVal (barCell c) 0 := by
  unfold unscopedSems0; rw [bigSep_eq_bigSepL_of_eq [SemLoc.reg barS] (by decide) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, by_sem]
  iintro ⟨Hz, HB⟩
  isplitl [HB]; · iexact HB
  iexact Hz

/-! ## Allocating the invariants -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Exchanging the duty tokens -/

/-- What every device knows, before the levels are known. -/
def known (K : Dev nD × CIx → ℕ) : sProp 𝕄 :=
  iprop((bigSep Finset.univ fun ci : Dev nD × CIx => cellInv ER (Rd m ρ) (K ci) (kcell ci))
    ∗ bigSep Finset.univ fun ci : Dev nD × CIx => reached ER (kcell ci) 0)
instance known_persistent (K : Dev nD × CIx → ℕ) : BI.Persistent (known m ρ K) := by unfold known; infer_instance

/-- The duty tokens device `c` pays: the barriers' of its peers, its own reads', its peers' landings. -/
def payToks (c : Dev nD) : sProp 𝕄 := iprop(barTok c ∗ ownTok c 0 ∗ peerTok c 1 ∗ ownTok c 2 ∗ peerTok c 3)
/-- What stays with device `c` alone: its positions and those tokens. -/
def linear (c : Dev nD) : sProp 𝕄 :=
  iprop((bigSep Finset.univ fun k : CIx => atPos ER (kcell (c, k)) 0 ∅ 0) ∗ payToks c)
/-- What the exchange leaves device `c`. -/
def G' (c : Dev nD) : sProp 𝕄 := iprop(∃ K, known m ρ K ∗ linear c)

theorem linear_intro (K : Dev nD × CIx → ℕ) (c : Dev nD) : iprop(known m ρ K ∗ linear c) ⊢ G' m ρ c := by
  unfold G'; iintro H; iexists K; iexact H

/-- A device's `k`-th item kept by its owner, or by the peer whose `k`-th peer the owner is. -/
theorem around_items (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c k) k := by
  rw [bigSep_univ_comm, bigSep_univ_comm fun (c : Dev nD) (k : Fin 15) => Φ (peer c k) k]
  exact bigSep_congr fun k _ => bigSep_univ_equiv (around k) fun c => Φ c k

theorem toks_around : (bigSep Finset.univ fun c : Dev nD => (toks c : sProp 𝕄)) ⊢ bigSep Finset.univ fun c : Dev nD => payToks c := by
  have hb : (bigSep Finset.univ fun c : Dev nD => (barOwn c : sProp 𝕄)) = bigSep Finset.univ fun c : Dev nD => barTok c :=
    around_items fun c k => dutyTok ER (barCell c) 0 k
  have hp (a : Fin 4) : (bigSep Finset.univ fun c : Dev nD => (ownTok c a : sProp 𝕄)) = bigSep Finset.univ fun c : Dev nD => peerTok c a :=
    around_items fun c k => dutyTok ER (dCell c a k) 0 0
  unfold toks payToks
  simp only [bigSep_sep']
  rw [hb, hp 1, hp 3]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CIx => iprop(∃ κ : ℕ, cellInv ER (Rd m ρ) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m ρ) κ (kcell ck) : sProp 𝕄))) $$ HI
  icases HK with ⟨%K, #HI⟩
  ihave Htk := (toks_around (F := F)) $$ Htok
  iapply (bigSep_with_persistent (R := known m ρ K) fun c _ => linear_intro m ρ K c)
  isplitr
  · unfold known; isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

/-- The one step all devices take together, before any of them starts. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owedTo_apply (f : Fin 15 → GSem nD τ sig) (amt : ℕ) (g : GSem nD τ sig) :
    owedTo f amt 0 g () = ∑ k : Fin 15, if g = f k then amt else 0 := by
  unfold owedTo
  rw [Ring.rangeSet_univ, Finset.sum_apply, Finsupp.finset_sum_apply]
  exact Finset.sum_congr rfl fun k _ => by rw [tallyAt_apply]; simp

/-- All devices together owe a cell, of the kind a device's `k`-th peer has, one amount per device that has it as `k`-th peer. -/
theorem owed_sum (cell : Dev nD → Fin 15 → GSem nD τ sig) (g : GSem nD τ sig) (amt : ℕ) :
    ∑ d : Dev nD, owedTo (fun k => cell (peer d k) k) amt 0 g () = ∑ k : Fin 15, ∑ d : Dev nD, if g = cell d k then amt else 0 := by
  simp only [owedTo_apply]
  rw [Finset.sum_comm]
  exact Finset.sum_congr rfl fun k _ => Equiv.sum_comp (around k) fun d => if g = cell d k then amt else 0

theorem barCell_iff {a b : Dev nD} : barCell a = barCell b ↔ a = b :=
  ⟨fun h => congrArg (fun g : GSem nD τ sig => g.1.1) h, fun h => h ▸ rfl⟩
theorem dCell_iff {a b : Dev nD} {x y : Fin 4} {k l : Fin 15} : dCell a x k = dCell b y l ↔ a = b ∧ (x, k) = (y, l) :=
  ⟨fun h => ⟨congrArg (fun g : GSem nD τ sig => g.1.1) h, dsem_inj (SemLoc.dma.inj (congrArg Prod.snd h))⟩,
    fun h => by obtain ⟨rfl, h⟩ := h; cases h; rfl⟩
theorem bar_ne_dma {a b : Dev nD} {x : Fin 4} {k : Fin 15} : barCell a ≠ dCell b x k := fun h => by cases congrArg Prod.snd h

theorem owed_all (g : GSem nD τ sig) : ∑ d : Dev nD, O₀ d g () = (∑ k : Fin 15, ∑ d : Dev nD, if g = dCell d 3 k then N else 0)
    + (∑ k : Fin 15, ∑ d : Dev nD, if g = dCell d 1 k then N else 0) + ∑ k : Fin 15, ∑ d : Dev nD, if g = barCell d then 1 else 0 := by
  rw [← owed_sum (fun d k => dCell d 3 k), ← owed_sum (fun d k => dCell d 1 k), ← owed_sum (fun d _ => barCell d), ← Finset.sum_add_distrib, ← Finset.sum_add_distrib]
  rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_all]
  simp only [bar_ne_dma, if_false, Finset.sum_const_zero, barCell_iff, Finset.sum_ite_eq, Finset.mem_univ, if_true]
  simp

theorem dma_sum (c : Dev nD) (a b : Fin 4) (k : Fin 15) :
    (∑ l : Fin 15, ∑ d : Dev nD, if dCell c a k = dCell d b l then N else 0) = if a = b then N else 0 := by
  by_cases h : a = b
  · subst h
    rw [Finset.sum_eq_single k (fun l _ hl => Finset.sum_eq_zero fun d _ => if_neg fun hh => hl (congrArg Prod.snd (dCell_iff.mp hh).2).symm) (fun h => absurd (Finset.mem_univ _) h),
      Finset.sum_eq_single c (fun d _ hd => if_neg fun hh => hd (dCell_iff.mp hh).1.symm) (fun h => absurd (Finset.mem_univ _) h), if_pos rfl, if_pos rfl]
  · rw [if_neg h]
    exact Finset.sum_eq_zero fun l _ => Finset.sum_eq_zero fun d _ => if_neg fun hh => h (congrArg Prod.fst (dCell_iff.mp hh).2)

theorem launch_dma (c : Dev nD) (a : Fin 4) (k : Fin 15) (ha : a = 1 ∨ a = 3) :
    tallyOn (dCell c a k) (launchCredit (Pipeline.owing O₀) 0 (dCell c a k)) = (tallyAt (dCell c a k) () N : CellTallies nD τ sig Unit) := by
  unfold tallyAt; refine congrArg _ (Finsupp.ext fun u => ?_); cases u
  rw [Pipeline.launchCredit_owing, Finsupp.single_eq_same, owed_all, dma_sum, dma_sum]
  simp only [bar_ne_dma.symm, if_false, Finset.sum_const_zero]
  rcases ha with rfl | rfl <;> simp

/-- The launch's credits on a device's semaphores, family by family. -/
theorem creds_by_sem (c : Dev nD) :
    (Pipeline.launchCred O₀ c : sProp 𝕄) ⊢ bigSep Finset.univ fun k : CIx => cred (tallyOn (kcell (c, k)) (launchCredit (Pipeline.owing O₀) 0 (kcell (c, k)))) := by
  have h := bigSep_subset (Finset.subset_univ (Finset.univ.map ⟨csem, csem_inj⟩))
    (Φ := fun sm : SemLoc sig => (cred (tallyOn ((c : Thread nD τ), sm) (launchCredit (Pipeline.owing O₀) 0 ((c : Thread nD τ), sm))) : sProp 𝕄))
  rw [bigSep_map] at h
  exact h

theorem creds_intro (c : Dev nD) : (Pipeline.launchCred O₀ c : sProp 𝕄) ⊢ creds c := by
  refine (creds_by_sem c).trans ?_
  rw [show (bigSep Finset.univ fun k : CIx => (cred (tallyOn (kcell (c, k)) (launchCredit (Pipeline.owing O₀) 0 (kcell (c, k)))) : sProp 𝕄)) = _ from by_sem _]
  unfold creds credAll
  iintro ⟨HB, -, H1, -, H3⟩
  isplitl [HB]; · rw [← launch_bar]; iexact HB
  isplitl [H1]
  · rw [bigSep_congr fun k _ => congrArg cred (launch_dma c 1 k (Or.inl rfl)).symm]; iexact H1
  · rw [bigSep_congr fun k _ => congrArg cred (launch_dma c 3 k (Or.inr rfl)).symm]; iexact H3

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  icases HG with ⟨%K, Hk, Hl⟩
  isplitl
  · isplitr [Hc]
    · iexists K
      unfold ghost linear payToks records known ats
      icases Hk with ⟨HI, HR⟩
      icases Hl with ⟨Hat, Htok⟩
      ihave Hat := (Entails.of_eq (by_sem fun k : CIx => (atPos ER (kcell (c, k)) 0 ∅ 0 : sProp 𝕄))) $$ Hat
      icases Hat with ⟨HB, H0, H1, H2, H3⟩
      icases Htok with ⟨TB, T0, T1, T2, T3⟩
      isplitl [HI HR Hlev]
      · isplitl [HI]; · iexact HI
        isplitl [HR]; · iexact HR
        iexact Hlev
      isplitl [HB]; · iexact HB
      isplitl [TB]; · iexact TB
      isplitl [H0]; · iexact H0
      isplitl [H1]; · iexact H1
      isplitl [H2]; · iexact H2
      isplitl [H3]; · iexact H3
      isplitl [T0]; · iexact T0
      isplitl [T1]; · iexact T1
      isplitl [T2]; · iexact T2
      iexact T3
    · iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HB, Hz⟩
  isplitl [HB]; · iexact HB
  isplitl [Hz]; · iexact Hz
  iexact Hr

theorem stage_level (w : Fin cfg0.W) (s) : lvSem (.dma ((cfg0.win w).sem s)) = 0 := by
  fin_cases w <;> fin_cases s <;> decide +kernel
theorem mayWait_stage (c : Dev nD) (sm : SemLoc sig) (h : lvSem sm = 0) (t : Fin (cfg0.N + 1)) :
    (levAts L lv : sProp 𝕄) ⊢ MayWait (c : Thread nD τ) sm () ((dats m ρ 0 c).owed t) := by
  rcases t with ⟨_ | _, ht⟩
  · exact mayWait_of c sm 0 0 0 (by omega) (fun _ => by omega) (fun _ => by omega)
  · exact mayWait_zero c sm
theorem waits (c : Dev nD) : (levAts L lv : sProp 𝕄) ⊢ Pipeline.cellsWaits cfgs (dats m ρ) () 0 c :=
  Pipeline.cellsWaits_intro cfgs (dats m ρ) () 0 c fun w s t => mayWait_stage m ρ c _ (stage_level w s) _

/-! ## The run -/

def finalA (c : Dev nD) (w : Fin cfg0.W) : Buf (Elt F) ((cfg0.win w).arr.view.loc (c : Thread nD τ)) := (dats m ρ 0 c).arrAt w cfg0.N

/-- Each device's arrays end as the pipeline writes them. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every execution of the program on the sixteen devices ends, each array is as the
    pipeline writes it, and every semaphore counter is at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.Final.lean ====
/-
# The run

The program's run, read at the arrays: every window is a whole array, so each staged argument is the argument itself and
the result array ends holding the kernel's result.
-/
module

public import proofs.«01_k».proof.Proof.Launch

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)

/-! ## The windows are whole arrays -/

theorem xAt_eq (c : Dev nD) : xAt m ρ c = m ((c : Thread nD τ).loc main_arg0) :=
  Memref.read_access_unit_zero (Elt F) main_arg0
    (show (fun a => (win0_0.index (0 : Fin 1)) a * main_arg0.ty.shape.size a) = fun _ => 0 from funext fun a => Nat.zero_mul _)
    (fun a => (congrArg (· + _) (Nat.zero_mul _)).trans (Nat.zero_add _) |>.le) _
theorem rwAt_eq (c : Dev nD) : rwAt m ρ c = m ((c : Thread nD τ).loc main_arg1) :=
  Memref.read_access_unit_zero (Elt F) main_arg1
    (show (fun a => (win0_1.index (0 : Fin 1)) a * main_arg1.ty.shape.size a) = fun _ => 0 from funext fun a => Nat.zero_mul _)
    (fun a => (congrArg (· + _) (Nat.zero_mul _)).trans (Nat.zero_add _) |>.le) _
theorem idxAt_eq (c : Dev nD) : idxAt m ρ c = m ((c : Thread nD τ).loc main_arg2) :=
  Memref.read_access_unit_zero (Elt F) main_arg2
    (show (fun a => (win0_2.index (0 : Fin 1)) a * main_arg2.ty.shape.size a) = fun _ => 0 from funext fun a => Nat.zero_mul _)
    (fun a => (congrArg (· + _) (Nat.zero_mul _)).trans (Nat.zero_add _) |>.le) _
theorem ewAt_eq (c : Dev nD) : ewAt m ρ c = m ((c : Thread nD τ).loc main_arg3) :=
  Memref.read_access_unit_zero (Elt F) main_arg3
    (show (fun a => (win0_3.index (0 : Fin 1)) a * main_arg3.ty.shape.size a) = fun _ => 0 from funext fun a => Nat.zero_mul _)
    (fun a => (congrArg (· + _) (Nat.zero_mul _)).trans (Nat.zero_add _) |>.le) _
theorem swAt_eq (c : Dev nD) : swAt m ρ c = m ((c : Thread nD τ).loc main_arg4) :=
  Memref.read_access_unit_zero (Elt F) main_arg4
    (show (fun a => (win0_4.index (0 : Fin 1)) a * main_arg4.ty.shape.size a) = fun _ => 0 from funext fun a => Nat.zero_mul _)
    (fun a => (congrArg (· + _) (Nat.zero_mul _)).trans (Nat.zero_add _) |>.le) _

theorem flushed_out (c : Dev nD) (t : Fin cfg0.N) :
    (dats m ρ 0 c).flushed (5 : Fin 6) t = (win0_5.blk t).view.read (Elt F) (outVal m ρ : Buf (Elt F) ((c : Thread nD τ).loc main_v1)) := by
  refine Eq.trans ?_ (Memref.read_access_unit_zero (Elt F) main_v1
    (show (fun a => (win0_5.index t) a * main_v1.ty.shape.size a) = fun _ => 0 from funext fun a => Nat.zero_mul _)
    (fun a => (congrArg (· + _) (Nat.zero_mul _)).trans (Nat.zero_add _) |>.le) _).symm
  exact funext fun _ => rfl

theorem cover_out (c : Dev nD) (i : S512x512.Idx) :
    ∃ t : Fin cfg0.N, (cfg0.win (5 : Fin 6)).flush t = true ∧ i ∈ ((cfg0.win (5 : Fin 6)).blk t).view.set := by
  refine ⟨t₀, by decide +kernel, ?_⟩
  show i ∈ ((View.whole main_v1).slice (win0_5.rect t₀)).set
  rw [View.set_slice_whole, Rect.mem_set_unit]
  intro a
  show 0 * S512x512.size a ≤ (i a : Nat) ∧ (i a : Nat) < 0 * S512x512.size a + S512x512.size a
  rw [Nat.zero_mul, Nat.zero_add]
  exact ⟨Nat.zero_le _, (i a).isLt⟩

/-- The result array ends holding the kernel's result. -/
theorem final_out (c : Dev nD) : finalA m ρ c (5 : Fin 6) = outVal m ρ :=
  (dats m ρ 0 c).arrAt_eq_of_cover (5 : Fin 6) (outVal m ρ) (fun t _ => flushed_out m ρ c t) (cover_out c)

/-! ## The run -/

/-- From any memory with zero counters, every execution of the program on the sixteen devices ends; then on every device
    the result array holds the kernel's result, the five arguments are as they were, and every semaphore counter is zero. -/
theorem run_main : θ_run defs (onTc (τ := τ) (main (F := F))) ⟨m, fun _ => 0, ρ⟩ (fun r =>
    (∀ c : Dev nD, r.2.mem ((c.tc : Thread nD τ).loc main_v1) = outVal m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c (5 : Fin 6)).trans (final_out m ρ c),
      (h.1 c (0 : Fin 6)).trans ((dats m ρ 0 c).arrAt_in (0 : Fin 6) rfl _),
      (h.1 c (1 : Fin 6)).trans ((dats m ρ 0 c).arrAt_in (1 : Fin 6) rfl _),
      (h.1 c (2 : Fin 6)).trans ((dats m ρ 0 c).arrAt_in (2 : Fin 6) rfl _),
      (h.1 c (3 : Fin 6)).trans ((dats m ρ 0 c).arrAt_in (3 : Fin 6) rfl _),
      (h.1 c (4 : Fin 6)).trans ((dats m ρ 0 c).arrAt_in (4 : Fin 6) rfl _)⟩, h.2⟩)
    (run_arrays m ρ)

end Cert.KernelIdeal.Moe

end
-- ==== Proof.Frames.lean ====
/-
# The frames

Each program ends, leaves its arguments unchanged and every semaphore counter at zero: the kernel over machine words and
over the extended reals (one run, stated over any float values), and the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_route_is_best_KernelIdeal
public import proofs.«01_k».proof.Proof.Gen.Pre_route_is_best_ReferenceIdeal
public import proofs.«01_k».proof.Proof.Final

@[expose] public section

set_option maxRecDepth 65536

noncomputable section

namespace Cert.Proof

open Idealize.ShloMosaic Idealize.ShloMosaic.TcCoe Idealize.SL.Sem

/-- The kernel over the extended reals runs, and leaves its arguments and the counters as they were. -/
theorem frame_ideal : Cert.quiescent_KernelIdeal := fun m ρ _ =>
  (θ_run Cert.KernelIdeal.defs _ _).mono (fun _ h => ⟨fun c => (h.1 c).2, h.2⟩) (Cert.KernelIdeal.Moe.run_main (F := Ideal) m ρ)

/-- The same under the precondition of the value claim. -/
theorem frame_ideal_pre : Cert.quiescent_KernelIdeal_pre_route_is_best_KernelIdeal := fun m ρ _ =>
  (θ_run Cert.KernelIdeal.defs _ _).mono (fun _ h => ⟨fun c => (h.1 c).2, h.2⟩) (Cert.KernelIdeal.Moe.run_main (F := Ideal) m ρ)

/-- The two printings of the kernel's body table, at any float values, are the same table. -/
theorem defs₀_eq {F : FTy → Type} [FloatOps F] : Cert.Kernel.defs₀ (F := F) = Cert.KernelIdeal.defs₀ (F := F) := by
  refine congrArg Defs.onTc (funext fun l => funext fun a => ?_)
  match l, a with
  | 0, (t, s) => rfl

/-- So are the tables with the pipeline's scaffold. -/
theorem defs_eq {F : FTy → Type} [FloatOps F] : Cert.Kernel.defs (F := F) = Cert.KernelIdeal.defs (F := F) :=
  congrArg (Pipeline.defs Cert.KernelIdeal.pcfgs) defs₀_eq

/-- The kernel over machine words has the same text, so the same run at machine words is its frame. -/
theorem frame_kernel : Cert.quiescent_Kernel := fun m ρ _ => by
  rw [defs_eq]
  exact (θ_run Cert.KernelIdeal.defs _ _).mono (fun _ h => ⟨fun c => (h.1 c).2, h.2⟩) (Cert.KernelIdeal.Moe.run_main (F := Bits) m ρ)

/-- The reference runs on host operations alone, which touch no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition of the value claim. -/
theorem frame_reference_pre : Cert.quiescent_ReferenceIdeal_pre_route_is_best_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Spec.lean ====
/-
  What both programs compute, written plainly over the extended reals: each row of the tokens goes through
  the shared matrix and through the matrix of the expert its index word names, the latter weighted by one
  over the row's softmax denominator.
-/
module

public import Idealize.ShloMosaic.Lib.Pointwise
public import Idealize.ShloMosaic.Lib.IdealHost
public import Idealize.ShloMosaic.Lib.Affine

@[expose] public section

set_option maxRecDepth 16384

noncomputable section

namespace Cert.Moe

open Idealize.ShloMosaic

/-- The token block: 512 rows of 256 numbers. -/
abbrev Tokens : Type := FVec Ideal ⟨2, ![512, 256]⟩ .f32
/-- The router's matrix: one column per expert. -/
abbrev Router : Type := FVec Ideal ⟨2, ![256, 32]⟩ .f32
/-- One index word per row. -/
abbrev Route : Type := IVec ⟨2, ![512, 1]⟩ 32
/-- The 32 experts' matrices. -/
abbrev Experts : Type := FVec Ideal ⟨3, ![32, 256, 512]⟩ .f32
/-- The shared matrix. -/
abbrev Shared : Type := FVec Ideal ⟨2, ![256, 512]⟩ .f32

variable (x : Tokens) (rt : Router) (idx : Route) (W : Experts) (sw : Shared)

/-- The router's score of expert `e` for row `n`. -/
def score (n : Fin 512) (e : Fin 32) : EReal := ∑ k : Fin 256, x (ix2 n k) * rt (ix2 k e)

/-- The largest score of row `n`. -/
def best (n : Fin 512) : EReal :=
  Finset.fold max (Ideal.ofBits FTy.f32 0xFF800000#32) (fun e : Fin 32 => score x rt n e) Finset.univ

/-- The softmax denominator of row `n`: the sum over the experts of the exponentials of the scores less the best. -/
def denom (n : Fin 512) : EReal := ∑ e : Fin 32, Ideal.exp (score x rt n e - best x rt n)

/-- Row `n` through expert `e`'s matrix, at column `h`. -/
def through (e : Fin 32) (n h : Fin 512) : EReal := ∑ d : Fin 256, x (ix2 n d) * W (ix3 e d h)

/-- Row `n` through the shared matrix, at column `h`. -/
def sharedAt (n h : Fin 512) : EReal := ∑ d : Fin 256, x (ix2 n d) * sw (ix2 d h)

/-- The expert row `n` goes to. -/
def expertOf (n : Fin 512) : Fin 32 := ⟨min (idx (ix2 n 0)).toInt.toNat 31, by omega⟩

/-- The result at row `n` and column `h`. -/
def result (n h : Fin 512) : EReal :=
  sharedAt x sw n h + Ideal.div 1 (denom x rt n) * through x W (expertOf idx n) n h

/-- Every row's index word names an expert, and that expert's score is the row's best and a finite number. -/
structure RouteIsBest : Prop where
  nonneg (n : Fin 512) : 0 ≤ (idx (ix2 n 0)).toInt
  small (n : Fin 512) : (idx (ix2 n 0)).toInt < 32
  isBest (n : Fin 512) : score x rt n (expertOf idx n) = best x rt n
  finite (n : Fin 512) : max (best x rt n) (-(best x rt n)) < ⊤

variable {x rt idx}

/-- Under the condition the row's own expert lies at distance 0 from the best score. -/
theorem RouteIsBest.gap (H : RouteIsBest x rt idx) (n : Fin 512) :
    Ideal.exp (score x rt n (expertOf idx n) - best x rt n) = 1 := by
  have hf := H.finite n
  rw [H.isBest n]
  have h1 : best x rt n ≠ ⊤ := fun e => by rw [e] at hf; exact absurd hf (by simp)
  have h2 : best x rt n ≠ ⊥ := fun e => by rw [e] at hf; exact absurd hf (by simp)
  lift best x rt n to ℝ using ⟨h1, h2⟩ with b
  rw [← EReal.coe_sub, sub_self]
  show ((Real.exp 0 : ℝ) : EReal) = 1
  simp

end Cert.Moe

end
-- ==== Proof.Condition.lean ====
/-
  The condition on the arguments, read back: it says of every row that its index word names an expert whose
  score is the row's best, and that this score is a finite number.
-/
module

public import proofs.«01_k».proof.Proof.Spec
public import proofs.«01_k».proof.Proof.Gen.Pre_route_is_best_KernelIdeal
public import Idealize.ShloMosaic.Lib.ReduceAll

@[expose] public section

set_option maxRecDepth 16384

noncomputable section

namespace Cert.Pre_route_is_best_KernelIdeal

open Cert.Moe Idealize.ShloMosaic

attribute [local instance] Cert.Pre_route_is_best_KernelIdeal.Gen.facts

/-- Every `or` of two flags that is set has one of them set. -/
theorem or_set {a b : BitVec 1} (h : IntOp.ori a b = 1#1) : a = 1#1 ∨ b = 1#1 := by revert a b; decide

/-- A flag made of a proposition is set when the proposition holds. -/
theorem flag_set {p : Prop} [Decidable p] (h : BitVec.ofBool (decide p) = 1#1) : p := by
  by_contra hp
  rw [decide_eq_false hp] at h
  exact absurd h (by decide)

/-- The word of an expert's number reads back as the number. -/
theorem small_word (e : Fin 32) : (BitVec.ofNat 32 e.val).toInt = e.val := by revert e; decide +kernel

/-- The condition's flag being set gives the plain statement. -/
theorem read_back (x : Tokens) (rt : Router) (idx : Route) (ew : FVec Ideal S2x256x512 .f32) (sw : Shared)
    (H : fn x rt idx ew sw = fun _ => 1#1) : RouteIsBest x rt idx := by
  unfold fn fn_part1 at H
  dsimp only at H
  obtain ⟨A, B⟩ := IntOp.andi_eq_one.1 (congrFun H ix0)
  have range : ∀ n : Fin 512, 0 ≤ (idx (ix2 n 0)).toInt ∧ (idx (ix2 n 0)).toInt < 32 := fun n => by
    have h := Host.reduce_andi_all _ _ _ _ _ A (ix2 n 0)
    pointwise at h
    obtain ⟨h1, h2⟩ := IntOp.andi_eq_one.1 h
    exact ⟨IntOp.cmpi_sge.1 h1, IntOp.cmpi_slt.1 h2⟩
  have top : ∀ n : Fin 512, score x rt n (expertOf idx n) = best x rt n
      ∧ max (score x rt n (expertOf idx n)) (-(score x rt n (expertOf idx n))) < Ideal.ofBits .f32 0x7F800000#32 := fun n => by
    have h := Host.reduce_andi_all _ _ _ _ _ B (ix2 n (expertOf idx n))
    pointwise at h
    rcases or_set h with h' | h'
    · refine absurd ?_ (IntOp.cmpi_ne.1 h')
      refine BitVec.eq_of_toInt_eq ?_
      have hr := range n
      have hv : (expertOf idx n).val = min (idx (ix2 n 0)).toInt.toNat 31 := rfl
      rw [small_word]
      omega
    · obtain ⟨h1, h2⟩ := IntOp.andi_eq_one.1 h'
      exact ⟨flag_set h1, flag_set h2⟩
  refine ⟨fun n => (range n).1, fun n => (range n).2, fun n => (top n).1, fun n => ?_⟩
  have h := (top n).2
  rw [(top n).1] at h
  have e : Ideal.ofBits .f32 0x7F800000#32 = ⊤ := by simp [Ideal.ofBits, Ideal.ieee]
  rwa [e] at h

end Cert.Pre_route_is_best_KernelIdeal

end
-- ==== Proof.Value.lean ====
/-
  The kernel's result, read at an index. A device's partial sum at a row is the weighted product of that row
  when the row's expert is one of the device's two, and zero when it is not; so the sixteen partial sums of a
  row add up to the one product, and the result is the plain one.
-/
module

public import proofs.«01_k».proof.Proof.Final
public import proofs.«01_k».proof.Proof.Spec

@[expose] public section

set_option maxRecDepth 16384

noncomputable section

namespace Cert.KernelIdeal.Moe

open Cert.KernelIdeal Cert.KernelIdeal.Gen Cert.Moe
open Idealize.ShloMosaic Idealize.ShloMosaic.TcCoe Idealize.SL.Sem

variable (m : (ℓ : Loc nD τ sig) → Buf (Elt Ideal) ℓ) (ρ : Dev nD → PrngReg)
variable (x : Tokens) (rt : Router) (idx : Route) (W : Experts) (sw : Shared)

/-- Every device's memory holds the tokens, the router's matrix, the index words and the shared matrix whole, and of the
    experts' matrices its own two. -/
structure Placed : Prop where
  tokens (c : Dev nD) : m ((c : Thread nD τ).loc main_arg0) = x
  router (c : Dev nD) : m ((c : Thread nD τ).loc main_arg1) = rt
  route (c : Dev nD) : m ((c : Thread nD τ).loc main_arg2) = idx
  experts (c : Dev nD) : m ((c : Thread nD τ).loc main_arg3)
    = (Layout.block ⟨3, ![2, 256, 512]⟩ ⟨3, ![32, 256, 512]⟩ 0 16 c W : Buf (Elt Ideal) ((c : Thread nD τ).loc main_arg3))
  shared (c : Dev nD) : m ((c : Thread nD τ).loc main_arg4) = sw

/-- Row `r` of block `j`, among the 512 rows. -/
def rowOf (j : Fin 16) (r : Fin 32) : Fin 512 := ⟨j.val * 32 + r.val, by omega⟩

/-- The `e`-th expert of device `c`. -/
def expert (c : Dev nD) (e : Fin 2) : Fin 32 := ⟨2 * c.val + e.val, by have : c.val < 16 := c.isLt; omega⟩

/-- The word the kernel compares the index words with is the number of the device's `e`-th expert. -/
theorem word_toInt (c : Dev nD) (e : Fin 2) :
    (Scalar.addi (Scalar.muli (selfWord c) 2#32) (BitVec.ofNat 32 e.val)).toInt = (expert c e).val := by
  revert c e; decide +kernel

variable {m ρ x rt idx W sw}

/-- A device's `e`-th matrix is the matrix of its `e`-th expert. -/
theorem ewOf_at (P : Placed m x rt idx W sw) (c : Dev nD) (e : Fin 2) (d : Fin 256) (h : Fin 512) :
    ewOf m ρ c e (ix3 0 d h) = W (ix3 (expert c e) d h) := by
  have e1 : ewAt m ρ c = Layout.block ⟨3, ![2, 256, 512]⟩ ⟨3, ![32, 256, 512]⟩ 0 16 c W := (ewAt_eq m ρ c).trans (P.experts c)
  unfold ewOf
  rw [e1]
  refine congrArg W (funext fun a => Fin.ext ?_)
  match a with
  | ⟨0, _⟩ =>
    show c.val * 2 + (e.val + 1 * 0) = 2 * c.val + e.val
    omega
  | ⟨1, _⟩ =>
    show 0 + 1 * d.val = d.val
    omega
  | ⟨2, _⟩ =>
    show 0 + 1 * h.val = h.val
    omega

/-- The kernel's denominator is the softmax's. -/
theorem denom_at (n : Fin 512) (z : Fin 1) : k0_pay2 (F := Ideal) x rt (ix2 n z) = denom x rt n := by
  pointwise [k0_pay2, k0_pay1]
  rfl

/-- The comparison of a row's index word with the number of a device's expert. -/
theorem gate_at (H : RouteIsBest x rt idx) (c : Dev nD) (e : Fin 2) (n : Fin 512) (T : EReal) :
    Scalar.select (IntOp.cmpi .eq (idx (ix2 n 0)) (Scalar.addi (Scalar.muli (selfWord c) 2#32) (BitVec.ofNat 32 e.val))) T 0
      = if expertOf idx n = expert c e then T else 0 := by
  unfold Scalar.select
  refine if_congr (IntOp.cmpi_eq.trans ?_) rfl rfl
  have h0 := H.nonneg n
  have h1 := H.small n
  have hw := word_toInt c e
  constructor
  · intro h
    refine Fin.ext ?_
    rw [← h] at hw
    show min (idx (ix2 n 0)).toInt.toNat 31 = _
    omega
  · intro h
    have h' : min (idx (ix2 n 0)).toInt.toNat 31 = (expert c e).val := congrArg Fin.val h
    refine BitVec.eq_of_toInt_eq ?_
    rw [hw]
    omega

/-- Two comparisons with the two experts of a device say which device holds the expert. -/
theorem two_gates (c : Dev nD) (t : Fin 32) (A : Fin 32 → EReal) :
    (if t = expert c 0 then A (expert c 0) else 0) + (if t = expert c 1 then A (expert c 1) else 0)
      = if c.val = t.val / 2 then A t else 0 := by
  have v0 : (expert c 0).val = 2 * c.val := rfl
  have v1 : (expert c 1).val = 2 * c.val + 1 := rfl
  by_cases h0 : t = expert c 0
  · have n1 : t ≠ expert c 1 := fun h => by rw [h] at h0; exact absurd (congrArg Fin.val h0) (by omega)
    rw [if_pos h0, if_neg n1, if_pos (by rw [h0]; omega), add_zero, h0]
  · by_cases h1 : t = expert c 1
    · rw [if_neg h0, if_pos h1, if_pos (by rw [h1]; omega), zero_add, h1]
    · rw [if_neg h0, if_neg h1, zero_add, if_neg]
      intro h
      have : t.val = 2 * c.val ∨ t.val = 2 * c.val + 1 := by omega
      rcases this with h' | h'
      · exact h0 (Fin.ext (h'.trans v0.symm))
      · exact h1 (Fin.ext (h'.trans v1.symm))

/-- A device's partial sum at a row: the weighted product of the row when its expert is the device's, else zero. -/
theorem accAt_at (P : Placed m x rt idx W sw) (H : RouteIsBest x rt idx) (c : Dev nD) (j : Fin 16) (r : Fin 32) (h : Fin 512) :
    accAt m ρ c (ix3 j r h)
      = if c.val = (expertOf idx (rowOf j r)).val / 2
        then Ideal.div 1 (denom x rt (rowOf j r)) * through x W (expertOf idx (rowOf j r)) (rowOf j r) h else 0 := by
  have ex : xAt m ρ c = x := (xAt_eq m ρ c).trans (P.tokens c)
  have er : rwAt m ρ c = rt := (rwAt_eq m ρ c).trans (P.router c)
  have ei : idxAt m ρ c = idx := (idxAt_eq m ρ c).trans (P.route c)
  unfold accAt
  rw [ex, er, ei]
  have e0 : ∀ d : Fin 256, ewOf m ρ c 0 (ix3 0 d h) = W (ix3 (expert c 0) d h) := fun d => ewOf_at P c 0 d h
  have e1 : ∀ d : Fin 256, ewOf m ρ c 1 (ix3 0 d h) = W (ix3 (expert c 1) d h) := fun d => ewOf_at P c 1 d h
  generalize ewOf m ρ c 0 = w0 at e0 ⊢
  generalize ewOf m ρ c 1 = w1 at e1 ⊢
  pointwise [k0_pay3, k0_pay1]
  simp only [e0, e1]
  simp only [denom_at]
  refine (congrArg₂ (· + ·)
    (gate_at H c 0 (rowOf j r) (Ideal.div 1 (denom x rt (rowOf j r)) * through x W (expert c 0) (rowOf j r) h))
    (gate_at H c 1 (rowOf j r) (Ideal.div 1 (denom x rt (rowOf j r)) * through x W (expert c 1) (rowOf j r) h))).trans ?_
  exact two_gates c _ fun t => Ideal.div 1 (denom x rt (rowOf j r)) * through x W t (rowOf j r) h

/-- A device's own term and those of its fifteen sources are the terms of all sixteen devices. -/
theorem sum_sources (c : Dev nD) (f : Dev nD → EReal) : f c + ∑ k : Fin 15, f (src c k) = ∑ d : Dev nD, f d := by
  rw [univ_src c, Finset.sum_insert, Finset.sum_map]
  · rfl
  · intro hm
    obtain ⟨k, -, hk⟩ := Finset.mem_map.1 hm
    exact src_ne c k hk

/-- Of the sixteen devices one holds a given expert. -/
theorem one_holder (t : Fin 32) (A : EReal) : ∑ d : Dev nD, (if d.val = t.val / 2 then A else 0) = A := by
  have ht : t.val / 2 < nD := by show t.val / 2 < 16; omega
  rw [Finset.sum_eq_single (⟨t.val / 2, ht⟩ : Dev nD)]
  · exact if_pos rfl
  · exact fun d _ hd => if_neg fun h => hd (Fin.ext h)
  · exact fun h => absurd (Finset.mem_univ _) h

/-- The element of a sixteen-slot buffer, by its coordinates. -/
theorem at16_eq (j : Fin 16) (r : Fin 32) (h : Fin 512) : at16 j r h = ix3 j r h := by
  funext a; match a with | ⟨0, _⟩ => rfl | ⟨1, _⟩ => rfl | ⟨2, _⟩ => rfl
/-- The element of a one-slot buffer, by its coordinates. -/
theorem at1_eq (r : Fin 32) (h : Fin 512) : at1 r h = ix3 0 r h := by
  funext a; match a with | ⟨0, _⟩ => rfl | ⟨1, _⟩ => rfl | ⟨2, _⟩ => rfl

/-- A device's own slot of its partial sum. -/
theorem accOwn_at (c : Dev nD) (r : Fin 32) (h : Fin 512) : accOwn m ρ c (ix3 0 r h) = accAt m ρ c (ix3 c r h) := by
  refine congrArg (accAt m ρ c) (funext fun a => Fin.ext ?_)
  match a with
  | ⟨0, _⟩ =>
    show c.val + 1 * 0 = c.val
    omega
  | ⟨1, _⟩ =>
    show 0 + 1 * r.val = r.val
    omega
  | ⟨2, _⟩ =>
    show 0 + 1 * h.val = h.val
    omega

/-- A device's own tokens are the rows of its block. -/
theorem xOwn_at (P : Placed m x rt idx W sw) (c : Dev nD) (r : Fin 32) (k : Fin 256) :
    xOwn m ρ c (ix2 r k) = x (ix2 (rowOf c r) k) := by
  have ex : xAt m ρ c = x := (xAt_eq m ρ c).trans (P.tokens c)
  unfold xOwn
  rw [ex]
  refine congrArg x (funext fun a => Fin.ext ?_)
  match a with
  | ⟨0, _⟩ =>
    show 32 * c.val + 1 * r.val = c.val * 32 + r.val
    omega
  | ⟨1, _⟩ =>
    show 0 + 1 * k.val = k.val
    omega

/-- A finished block holds the plain result of its rows. -/
theorem chunkAt_at (P : Placed m x rt idx W sw) (H : RouteIsBest x rt idx) (c : Dev nD) (r : Fin 32) (h : Fin 512) :
    chunkAt m ρ c (ix3 0 r h) = result x rt idx W sw (rowOf c r) h := by
  have es : swAt m ρ c = sw := (swAt_eq m ρ c).trans (P.shared c)
  have ers : ∀ k : Fin 15, rsAll m ρ c (ix3 k r h) = accAt m ρ (src c k) (ix3 c r h) :=
    fun k => congrArg (accAt m ρ (src c k)) (at16_eq c r h)
  have ea : accOwn m ρ c (ix3 0 r h) = accAt m ρ c (ix3 c r h) := accOwn_at c r h
  have exo : ∀ k : Fin 256, xOwn m ρ c (ix2 r k) = x (ix2 (rowOf c r) k) := fun k => xOwn_at P c r k
  unfold chunkAt
  rw [es]
  generalize rsAll m ρ c = rs at ers ⊢
  generalize accOwn m ρ c = own at ea ⊢
  generalize xOwn m ρ c = xo at exo ⊢
  pointwise [k0_pay5, k0_pay4]
  simp only [ers, exo, ea]
  simp only [accAt_at P H]
  rw [sum_sources c fun d : Dev nD => if d.val = (expertOf idx (rowOf c r)).val / 2 then
    Ideal.div 1 (denom x rt (rowOf c r)) * through x W (expertOf idx (rowOf c r)) (rowOf c r) h else 0, one_holder, add_comm]
  rfl

/-- The result at row `n` and column `h` is the plain one. -/
theorem outVal_at (P : Placed m x rt idx W sw) (H : RouteIsBest x rt idx) (n h : Fin 512) :
    outVal m ρ (ix2 n h) = result x rt idx W sw n h := by
  have e : ∀ (j : Fin 16) (r : Fin 32), agAll m ρ (ix3 j r h) = result x rt idx W sw (rowOf j r) h :=
    fun j r => (congrArg (chunkAt m ρ j) (at1_eq r h)).trans (chunkAt_at P H j r h)
  unfold outVal
  generalize agAll m ρ = ag at e ⊢
  pointwise [k0_pay7]
  rw [e]
  refine congrArg (fun n => result x rt idx W sw n h) (Fin.ext ?_)
  show n.val / 32 * 32 + n.val % 32 = n.val
  omega

end Cert.KernelIdeal.Moe

end
-- ==== Proof.Lookup.lean ====
/-
  The reference's two table look-ups, read at an index. One takes, in each row of a [512 × 32] table, the
  column named by that row's index word; the other takes, for each row, the whole [256 × 512] matrix its
  index word names out of 32. In both the word is read signed and clamped into 0 … 31.
-/
module

public import proofs.«01_k».proof.Proof.Gen.ReferenceIdeal
public import Idealize.ShloMosaic.Lib.Pointwise

@[expose] public section

set_option maxRecDepth 16384

noncomputable section

namespace Cert.ReferenceIdeal.Moe

open Cert.ReferenceIdeal Cert.ReferenceIdeal.Gen Idealize.ShloMosaic

/-- A slice starts at position 0 on an axis that no index word addresses. -/
theorem start_unaddressed {s si t : Shape} (d : GatherDims s si t) {w : Nat} (j : t.Idx) (idx : IVec si w) (a : Fin s.rank)
    (ha : a ∉ d.startIndexMap) : d.start j idx a = 0 := dif_neg ha

/-- Row `n` of the column look-up holds the table's entry at row `n` and the column the row's word names. -/
theorem column_at (P : FVec Ideal S512x32 .f32) (s : IVec S512x1x1 32) (n : Fin 512) :
    Host.gather gather_S512x32_S512x1x1_S512x1_n_1_0_0_1_2_11 P s (ix2 n 0)
      = P (ix2 n ⟨min (s (ix3 n 0 0)).toInt.toNat 31, by omega⟩) := by
  unfold Host.gather
  congr 1
  funext a
  refine Fin.ext ?_
  simp only [GatherDims.operandIdx]
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    exact dif_pos (List.mem_singleton.mpr rfl)
  | ⟨1, _⟩ =>
    rw [GatherDims.batchCoord_eq_zero _ _ _ (fun h => Nat.succ_ne_zero _ (congrArg Fin.val (List.mem_singleton.mp h))),
      GatherDims.offCoord_eq_zero _ _ _ (fun h => ((GatherDims.mem_sKept _ _).mp h).1 (List.mem_singleton.mpr rfl))]
    simp only [Nat.add_zero]
    have e : gather_S512x32_S512x1x1_S512x1_n_1_0_0_1_2_11.siIdx (ix2 n 0) ⟨List.idxOf (1 : Fin 2) [1], by decide⟩
        = ix3 n 0 0 := by
      funext b; refine Fin.ext ?_
      match b with
      | ⟨0, _⟩ => rfl
      | ⟨1, _⟩ => rfl
      | ⟨2, _⟩ => rfl
    exact (dif_pos (List.mem_singleton.mpr rfl)).trans (congrArg (fun i => min (s i).toInt.toNat 31) e)

/-- Row `n` of the matrix look-up holds the matrix the row's word names. -/
theorem matrix_at (W : FVec Ideal S32x256x512 .f32) (s : IVec S512x1 32) (n : Fin 512) (d : Fin 256) (h : Fin 512) :
    Host.gather gather_S32x256x512_S512x1_S512x256x512_12_0_n_n_0_1_1256512 W s (ix3 n d h)
      = W (ix3 ⟨min (s (ix2 n 0)).toInt.toNat 31, by omega⟩ d h) := by
  unfold Host.gather
  congr 1
  funext a
  refine Fin.ext ?_
  simp only [GatherDims.operandIdx]
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have e : gather_S32x256x512_S512x1_S512x256x512_12_0_n_n_0_1_1256512.siIdx (ix3 n d h)
        ⟨List.idxOf (0 : Fin 3) [0], by decide⟩ = ix2 n 0 := by
      funext b; refine Fin.ext ?_
      match b with
      | ⟨0, _⟩ => rfl
      | ⟨1, _⟩ => rfl
    exact (dif_pos (List.mem_singleton.mpr rfl)).trans (congrArg (fun i => min (s i).toInt.toNat 31) e)
  | ⟨1, _⟩ =>
    rw [GatherDims.batchCoord_eq_zero _ _ _ List.not_mem_nil,
      start_unaddressed _ _ _ _ (fun h => Nat.succ_ne_zero _ (congrArg Fin.val (List.mem_singleton.mp h)))]
    simp only [Nat.zero_add]
    rfl
  | ⟨2, _⟩ =>
    rw [GatherDims.batchCoord_eq_zero _ _ _ List.not_mem_nil,
      start_unaddressed _ _ _ _ (fun h => Nat.succ_ne_zero _ (congrArg Fin.val (List.mem_singleton.mp h)))]
    simp only [Nat.zero_add]
    rfl

/-- The same with the row's word given a name. -/
theorem column_of (P : FVec Ideal S512x32 .f32) (s : IVec S512x1x1 32) {n : Fin 512} {w : BitVec 32} (e : s (ix3 n 0 0) = w) :
    Host.gather gather_S512x32_S512x1x1_S512x1_n_1_0_0_1_2_11 P s (ix2 n 0) = P (ix2 n ⟨min w.toInt.toNat 31, by omega⟩) := by
  subst e; exact column_at P s n

/-- The same with the row's word given a name. -/
theorem matrix_of (W : FVec Ideal S32x256x512 .f32) (s : IVec S512x1 32) {n : Fin 512} {w : BitVec 32} (e : s (ix2 n 0) = w)
    (d : Fin 256) (h : Fin 512) :
    Host.gather gather_S32x256x512_S512x1_S512x256x512_12_0_n_n_0_1_1256512 W s (ix3 n d h)
      = W (ix3 ⟨min w.toInt.toNat 31, by omega⟩ d h) := by
  subst e; exact matrix_at W s n d h

end Cert.ReferenceIdeal.Moe

end
-- ==== Proof.RefValue.lean ====
/-
  The reference's result, read at an index: under the condition on the index words it is the plain result.
-/
module

public import proofs.«01_k».proof.Proof.Lookup
public import proofs.«01_k».proof.Proof.Spec
public import proofs.«01_k».proof.Proof.Gen.ReferenceIdeal.Run
public import Idealize.ShloMosaic.Lib.ReduceAll

@[expose] public section

set_option maxRecDepth 16384

noncomputable section

namespace Cert.ReferenceIdeal.Moe

open Cert.ReferenceIdeal Cert.ReferenceIdeal.Gen Cert.Moe Idealize.ShloMosaic

variable (x : Tokens) (rt : Router) (idx : Route) (W : Experts) (sw : Shared)

/-- The index words with the negative ones moved up by 32, as the column look-up takes them. -/
def columnWord : IVec S512x1x1 32 :=
  shapeCast _ (select (cmpi .slt idx (broadcastInDim S512x1 ![] bcast_S_S512x1 (constantI S_ 32 0#32)))
    (addi idx (broadcastInDim S512x1 ![] bcast_S_S512x1 (constantI S_ 32 32#32))) idx) shapeCasts_S512x1_S512x1x1

/-- The index words with the negative ones moved up by 32, as the matrix look-up takes them. -/
def matrixWord : IVec S512x1 32 :=
  broadcastInDim S512x1 ![0] bcast_S512_S512x1_0
    (select (cmpi .slt (shapeCast _ idx shapeCasts_S512x1_S512) (broadcastInDim S512 ![] bcast_S_S512 (constantI S_ 32 0#32)))
      (addi (shapeCast _ idx shapeCasts_S512x1_S512) (broadcastInDim S512 ![] bcast_S_S512 (constantI S_ 32 32#32)))
      (shapeCast _ idx shapeCasts_S512x1_S512))

/-- The flag per row that its index word names a column. -/
def inRange : IVec S512x1 1 :=
  Host.reduce IntOp.andi
    (andi (cmpi .sge (columnWord idx) (broadcastInDim S512x1x1 ![] bcast_S_S512x1x1 (constantI S_ 32 0#32)))
      (cmpi .sle (columnWord idx) (broadcastInDim S512x1x1 ![0, 1, 2] bcast_S1x1x1_S512x1x1_0_1_2
        (broadcastInDim S1x1x1 ![2] bcast_S1_S1x1x1_2 (constantI S1 32 31#32)))))
    (constantI S_ 1 1#1) reducesTo_S512x1x1_S512x1_d2 h_S_

/-- The router's scores. -/
def scores : FVec Ideal S512x32 .f32 := Host.dotGeneral dot_S512x256_S256x32_S512x32_1_0_0_1_n_n none x rt

/-- The exponentials of the scores less each row's best. -/
def weights : FVec Ideal S512x32 .f32 :=
  Host.exp (subf (scores x rt) (broadcastInDim S512x32 ![0, 1] bcast_S512x1_S512x32_0_1
    (broadcastInDim S512x1 ![0] bcast_S512_S512x1_0
      (Host.reduce FloatOps.maximumf (scores x rt) (constant S_ .f32 0xFF800000#32) reducesTo_S512x32_S512_d1 h_S_))))

/-- The softmax of the scores. -/
def probs : FVec Ideal S512x32 .f32 :=
  Host.divf (weights x rt) (broadcastInDim S512x32 ![0, 1] bcast_S512x1_S512x32_0_1
    (broadcastInDim S512x1 ![0] bcast_S512_S512x1_0
      (Host.reduceAdd (weights x rt) (constant S_ .f32 0x00000000#32) reducesTo_S512x32_S512_d1 h_S_)))

/-- The reference's result, as its operations compose. -/
def out : FVec Ideal S512x512 .f32 :=
  addf (Host.dotGeneral dot_S512x256_S256x512_S512x512_1_0_0_1_n_n none x sw)
    (mulf (broadcastInDim S512x512 ![0, 1] bcast_S512x1_S512x512_0_1
        (select (inRange idx)
          (Host.gather gather_S512x32_S512x1x1_S512x1_n_1_0_0_1_2_11 (probs x rt) (columnWord idx))
          (broadcastInDim S512x1 ![] bcast_S_S512x1 (constant S_ .f32 0x7FC00000#32))))
      (Host.dotGeneral dot_S512x256_S512x256x512_S512x512_1_1_n_2_0_0 none x
        (Host.gather gather_S32x256x512_S512x1_S512x256x512_12_0_n_n_0_1_1256512 W (matrixWord idx))))

/-- A word that is not negative is kept. -/
theorem keep {w : BitVec 32} (h : 0 ≤ w.toInt) (a : BitVec 32) : Scalar.select (IntOp.cmpi .slt w 0#32) a w = w := by
  refine if_neg fun e => ?_
  have := IntOp.cmpi_slt.1 e
  simp at this
  omega

variable {x rt idx}

/-- A row's column word is its index word. -/
theorem columnWord_at (H : RouteIsBest x rt idx) (n : Fin 512) (a b : Fin 1) : columnWord idx (ix3 n a b) = idx (ix2 n 0) := by
  pointwise [columnWord]
  exact keep (H.nonneg n) _

/-- A row's matrix word is its index word. -/
theorem matrixWord_at (H : RouteIsBest x rt idx) (n : Fin 512) (a : Fin 1) : matrixWord idx (ix2 n a) = idx (ix2 n 0) := by
  pointwise [matrixWord]
  exact keep (H.nonneg n) _

/-- Every row's index word names a column. -/
theorem inRange_at (H : RouteIsBest x rt idx) (n : Fin 512) (a : Fin 1) : inRange idx (ix2 n a) = 1#1 := by
  refine Host.reduce_andi_one _ _ _ _ _ rfl fun i => ?_
  obtain ⟨p, q, r, rfl⟩ : ∃ p q r, i = ix3 p q r := ⟨i 0, i 1, i 2, eq_ix3 i⟩
  pointwise
  rw [columnWord_at H]
  have h1 := H.nonneg p
  have h2 := H.small p
  exact IntOp.andi_eq_one.2 ⟨IntOp.cmpi_sge.2 h1, IntOp.cmpi_sle.2 (Int.le_of_lt_add_one h2)⟩

variable (x rt) in
/-- The softmax at row `n` and expert `e`. -/
theorem probs_at (n : Fin 512) (e : Fin 32) :
    probs x rt (ix2 n e) = Ideal.div (Ideal.exp (score x rt n e - best x rt n)) (denom x rt n) := by
  pointwise [probs, weights, scores]
  rfl

/-- The reference's result at row `n` and column `h` is the plain one. -/
theorem out_at (H : RouteIsBest x rt idx) (n h : Fin 512) : out x rt idx W sw (ix2 n h) = result x rt idx W sw n h := by
  pointwise [out]
  rw [inRange_at H, column_of _ _ (columnWord_at H n 0 0)]
  simp only [fun d => matrix_of W _ (matrixWord_at H n 0) d h]
  have e : probs x rt (ix2 n (expertOf idx n)) = Ideal.div 1 (denom x rt n) := by rw [probs_at, H.gap n]
  exact congrArg (fun p => sharedAt x sw n h + p * through x W (expertOf idx n) n h) e

end Cert.ReferenceIdeal.Moe

end
-- ==== Proof.Equation.lean ====
/-
  The kernel against the reference: under the condition both results are the plain one.
-/
module

public import proofs.«01_k».proof.Defs
public import proofs.«01_k».proof.Proof.Condition
public import proofs.«01_k».proof.Proof.Value
public import proofs.«01_k».proof.Proof.RefValue

@[expose] public section

set_option maxRecDepth 16384

noncomputable section

namespace Cert.Proof

open Idealize.ShloMosaic Idealize.ShloMosaic.TcCoe Idealize.SL.Sem
open Cert.Moe

/-- From memories in which every device holds its part of the reference's arrays, and under the condition on the
    arguments, the program on the sixteen devices and the reference on one both end, every device's result equal to the
    reference's, the arguments of both unchanged. -/
theorem equation : algebraic_KernelIdeal_ReferenceIdeal_pre_route_is_best_KernelIdeal
    (hKernelIdeal := Cert.KernelIdeal.Gen.facts) (hReferenceIdeal := Cert.ReferenceIdeal.Gen.facts)
    (hPre_route_is_best_KernelIdeal := Cert.Pre_route_is_best_KernelIdeal.Gen.facts) := by
  intro m g m' g' hpre hargs
  have P : Cert.KernelIdeal.Moe.Placed m _ _ _ _ _ :=
    ⟨fun c => (hargs c).1, fun c => (hargs c).2.1, fun c => (hargs c).2.2.1, fun c => (hargs c).2.2.2.1, fun c => (hargs c).2.2.2.2⟩
  have H := Cert.Pre_route_is_best_KernelIdeal.read_back _ _ _ _ _ (hpre 0)
  rw [P.tokens 0, P.router 0, P.route 0] at H
  refine ⟨Cert.KernelIdeal.Moe.outVal m g, ?_, ?_⟩
  · exact (θ_run _ _ _).mono (fun r h => h.1) (Cert.KernelIdeal.Moe.run_main m g)
  · refine (θ_run _ _ _).mono (fun r h => ⟨(h 0).1.trans ?_, (h 0).2⟩) (Cert.ReferenceIdeal.Value.run m' g')
    refine funext fun i => ?_
    obtain ⟨n, k, rfl⟩ : ∃ n k, i = ix2 n k := ⟨i 0, i 1, ValueIdx.eq_ix2 i⟩
    exact (Cert.ReferenceIdeal.Moe.out_at _ _ H n k).trans (Cert.KernelIdeal.Moe.outVal_at P H n k).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_route_is_best_KernelIdeal
public import proofs.«01_k».proof.Proof.Gen.Pre_route_is_best_ReferenceIdeal
public import proofs.«01_k».proof.Proof.Frames
public import proofs.«01_k».proof.Proof.Equation

@[expose] public section

noncomputable section

namespace Cert.Proof

/-- Everything that the certificate claims. -/
theorem claim : Cert.Claim := ⟨Cert.Kernel.Gen.facts, Cert.KernelIdeal.Gen.facts, Cert.ReferenceIdeal.Gen.facts,
  Cert.Pre_route_is_best_KernelIdeal.Gen.facts, Cert.Pre_route_is_best_ReferenceIdeal.Gen.facts,
  frame_kernel, frame_ideal, frame_ideal_pre, frame_reference, frame_reference_pre, trivial, equation⟩

end Cert.Proof

end
